-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x4096 : Shape := ⟨3, ![4, 256, 4096]⟩
abbrev S65536x4096 : Shape := ⟨2, ![65536, 4096]⟩
abbrev S65536 : Shape := ⟨1, ![65536]⟩
abbrev S1024x4096 : Shape := ⟨2, ![1024, 4096]⟩
abbrev S512x128 : Shape := ⟨2, ![512, 128]⟩
abbrev S1024x64 : Shape := ⟨2, ![1024, 64]⟩
abbrev S8x128 : Shape := ⟨2, ![8, 128]⟩
abbrev S1024x1024 : Shape := ⟨2, ![1024, 1024]⟩
abbrev S8x1024 : Shape := ⟨2, ![8, 1024]⟩
abbrev S1024x128 : Shape := ⟨2, ![1024, 128]⟩
abbrev S512x1024 : Shape := ⟨2, ![512, 1024]⟩
abbrev S16x4096 : Shape := ⟨2, ![16, 4096]⟩
abbrev S16x1024 : Shape := ⟨2, ![16, 1024]⟩
abbrev S1x128 : Shape := ⟨2, ![1, 128]⟩
abbrev S128x128 : Shape := ⟨2, ![128, 128]⟩
abbrev S64x128 : Shape := ⟨2, ![64, 128]⟩
abbrev S128x64 : Shape := ⟨2, ![128, 64]⟩
abbrev S4x256x64 : Shape := ⟨3, ![4, 256, 64]⟩

abbrev nBuf : Space → Nat
  | .hbm => 9
  | .vmem => 13
  | .smem => 0
  | _ => 0

abbrev bufTy : (tb : Table) → Fin (tcTables nBuf tb) → BufTy
  | .hbm, ⟨0, _⟩ => ⟨S4x256x4096, .bf16⟩
  | .hbm, ⟨1, _⟩ => ⟨S65536x4096, .i8⟩
  | .hbm, ⟨2, _⟩ => ⟨S65536, .f32⟩
  | .hbm, ⟨3, _⟩ => ⟨S65536, .i32⟩
  | .hbm, ⟨4, _⟩ => ⟨S1024x4096, .bf16⟩
  | .hbm, ⟨5, _⟩ => ⟨S512x128, .f32⟩
  | .hbm, ⟨6, _⟩ => ⟨S512x128, .i32⟩
  | .hbm, ⟨7, _⟩ => ⟨S1024x64, .f32⟩
  | .hbm, ⟨8, _⟩ => ⟨S4x256x64, .f32⟩
  | .local _ .vmem, ⟨0, _⟩ => ⟨S1024x4096, .bf16⟩
  | .local _ .vmem, ⟨1, _⟩ => ⟨S1024x4096, .i8⟩
  | .local _ .vmem, ⟨2, _⟩ => ⟨S1024x4096, .i8⟩
  | .local _ .vmem, ⟨3, _⟩ => ⟨S8x128, .f32⟩
  | .local _ .vmem, ⟨4, _⟩ => ⟨S8x128, .f32⟩
  | .local _ .vmem, ⟨5, _⟩ => ⟨S8x128, .i32⟩
  | .local _ .vmem, ⟨6, _⟩ => ⟨S8x128, .i32⟩
  | .local _ .vmem, ⟨7, _⟩ => ⟨S1024x64, .f32⟩
  | .local _ .vmem, ⟨8, _⟩ => ⟨S1024x1024, .f32⟩
  | .local _ .vmem, ⟨9, _⟩ => ⟨S8x1024, .f32⟩
  | .local _ .vmem, ⟨10, _⟩ => ⟨S1024x128, .f32⟩
  | .local _ .vmem, ⟨11, _⟩ => ⟨S1024x128, .f32⟩
  | .local _ .vmem, ⟨12, _⟩ => ⟨S512x1024, .f32⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_58 : BitVec 32 := 0#32
  let c8_i32 : BitVec 32 := 8#32
  let v150 : BitVec 32 := Scalar.addi c0_i32_58 c8_i32
  let c1_i32 : BitVec 32 := 1#32
  ⟨c0_i32_58, v150, c1_i32⟩
def k0_mult1 (k0_t1 : Fin k0_t1_loop.trips) : BitVec 32 :=
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  v156
def k0_off1 (k0_t1 : Fin k0_t1_loop.trips) : Fin 2 → Nat :=
  let c0_63 : Index := 0#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v158 : Index := Scalar.indexCast v157
  ![0, v158.toNat]
@[reducible] def k0_t2_loop : Scf.Loop 32 :=
  let c0_i32_64 : BitVec 32 := 0#32
  let c128_i32_65 : BitVec 32 := 128#32
  let v160 : BitVec 32 := Scalar.addi c0_i32_64 c128_i32_65
  let c1_i32_66 : BitVec 32 := 1#32
  ⟨c0_i32_64, v160, c1_i32_66⟩
def k0_mult2 (k0_t2 : Fin k0_t2_loop.trips) : BitVec 32 :=
  let c0_i32_69 : BitVec 32 := 0#32
  let c0_i32_64 : BitVec 32 := 0#32
  let c1_i32_66 : BitVec 32 := 1#32
  let arg12 : BitVec 32 := Scf.iv c0_i32_64 c1_i32_66 k0_t2
  let c1_i32_68 : BitVec 32 := 1#32
  let v161 : BitVec 32 := Scalar.muli arg12 c1_i32_68
  let v162 : BitVec 32 := Scalar.addi c0_i32_69 v161
  let c8_i32_70 : BitVec 32 := 8#32
  let v163 : BitVec 32 := Scalar.muli v162 c8_i32_70
  v163
def k0_off2 (k0_t1 : Fin k0_t1_loop.trips) (k0_t2 : Fin k0_t2_loop.trips) : Fin 2 → Nat :=
  let c0_i32_69 : BitVec 32 := 0#32
  let c0_i32_64 : BitVec 32 := 0#32
  let c1_i32_66 : BitVec 32 := 1#32
  let arg12 : BitVec 32 := Scf.iv c0_i32_64 c1_i32_66 k0_t2
  let c1_i32_68 : BitVec 32 := 1#32
  let v161 : BitVec 32 := Scalar.muli arg12 c1_i32_68
  let v162 : BitVec 32 := Scalar.addi c0_i32_69 v161
  let c8_i32_70 : BitVec 32 := 8#32
  let v163 : BitVec 32 := Scalar.muli v162 c8_i32_70
  let v164 : BitVec 32 := v163
  let v165 : Index := Scalar.indexCast v164
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v166 : Index := Scalar.indexCast v157
  ![v165.toNat, v166.toNat]
def k0_off3 (k0_t2 : Fin k0_t2_loop.trips) : Fin 2 → Nat :=
  let c0_i32_69 : BitVec 32 := 0#32
  let c0_i32_64 : BitVec 32 := 0#32
  let c1_i32_66 : BitVec 32 := 1#32
  let arg12 : BitVec 32 := Scf.iv c0_i32_64 c1_i32_66 k0_t2
  let c1_i32_68 : BitVec 32 := 1#32
  let v161 : BitVec 32 := Scalar.muli arg12 c1_i32_68
  let v162 : BitVec 32 := Scalar.addi c0_i32_69 v161
  let c8_i32_70 : BitVec 32 := 8#32
  let v163 : BitVec 32 := Scalar.muli v162 c8_i32_70
  let v164 : BitVec 32 := v163
  let v168 : Index := Scalar.indexCast v164
  let c0_71 : Index := 0#32
  ![v168.toNat, 0]
def k0_off4 (k0_t1 : Fin k0_t1_loop.trips) : Fin 2 → Nat :=
  let c0_73 : Index := 0#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v175 : Index := Scalar.indexCast v157
  ![0, v175.toNat]
def k0_off5 (k0_t1 : Fin k0_t1_loop.trips) : Fin 2 → Nat :=
  let c8 : Index := 8#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v183 : Index := Scalar.indexCast v157
  ![8, v183.toNat]
def k0_off6 (k0_t1 : Fin k0_t1_loop.trips) : Fin 2 → Nat :=
  let c16 : Index := 16#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v191 : Index := Scalar.indexCast v157
  ![16, v191.toNat]
def k0_off7 (k0_t1 : Fin k0_t1_loop.trips) : Fin 2 → Nat :=
  let c24 : Index := 24#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v199 : Index := Scalar.indexCast v157
  ![24, v199.toNat]
def k0_off8 (k0_t1 : Fin k0_t1_loop.trips) : Fin 2 → Nat :=
  let c32 : Index := 32#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v207 : Index := Scalar.indexCast v157
  ![32, v207.toNat]
def k0_off9 (k0_t1 : Fin k0_t1_loop.trips) : Fin 2 → Nat :=
  let c40 : Index := 40#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v215 : Index := Scalar.indexCast v157
  ![40, v215.toNat]
def k0_off10 (k0_t1 : Fin k0_t1_loop.trips) : Fin 2 → Nat :=
  let c48 : Index := 48#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v223 : Index := Scalar.indexCast v157
  ![48, v223.toNat]
def k0_off11 (k0_t1 : Fin k0_t1_loop.trips) : Fin 2 → Nat :=
  let c56 : Index := 56#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v231 : Index := Scalar.indexCast v157
  ![56, v231.toNat]
def k0_off12 (k0_t1 : Fin k0_t1_loop.trips) : Fin 2 → Nat :=
  let c64 : Index := 64#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v239 : Index := Scalar.indexCast v157
  ![64, v239.toNat]
def k0_off13 (k0_t1 : Fin k0_t1_loop.trips) : Fin 2 → Nat :=
  let c72 : Index := 72#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v247 : Index := Scalar.indexCast v157
  ![72, v247.toNat]
def k0_off14 (k0_t1 : Fin k0_t1_loop.trips) : Fin 2 → Nat :=
  let c80 : Index := 80#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v255 : Index := Scalar.indexCast v157
  ![80, v255.toNat]
def k0_off15 (k0_t1 : Fin k0_t1_loop.trips) : Fin 2 → Nat :=
  let c88 : Index := 88#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v263 : Index := Scalar.indexCast v157
  ![88, v263.toNat]
def k0_off16 (k0_t1 : Fin k0_t1_loop.trips) : Fin 2 → Nat :=
  let c96 : Index := 96#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v271 : Index := Scalar.indexCast v157
  ![96, v271.toNat]
def k0_off17 (k0_t1 : Fin k0_t1_loop.trips) : Fin 2 → Nat :=
  let c104 : Index := 104#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v279 : Index := Scalar.indexCast v157
  ![104, v279.toNat]
def k0_off18 (k0_t1 : Fin k0_t1_loop.trips) : Fin 2 → Nat :=
  let c112 : Index := 112#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v287 : Index := Scalar.indexCast v157
  ![112, v287.toNat]
def k0_off19 (k0_t1 : Fin k0_t1_loop.trips) : Fin 2 → Nat :=
  let c120 : Index := 120#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v295 : Index := Scalar.indexCast v157
  ![120, v295.toNat]
def k0_off20 (k0_t1 : Fin k0_t1_loop.trips) : Fin 2 → Nat :=
  let c128_90 : Index := 128#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v303 : Index := Scalar.indexCast v157
  ![128, v303.toNat]
def k0_off21 (k0_t1 : Fin k0_t1_loop.trips) : Fin 2 → Nat :=
  let c136 : Index := 136#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v311 : Index := Scalar.indexCast v157
  ![136, v311.toNat]
def k0_off22 (k0_t1 : Fin k0_t1_loop.trips) : Fin 2 → Nat :=
  let c144 : Index := 144#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v319 : Index := Scalar.indexCast v157
  ![144, v319.toNat]
def k0_off23 (k0_t1 : Fin k0_t1_loop.trips) : Fin 2 → Nat :=
  let c152 : Index := 152#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v327 : Index := Scalar.indexCast v157
  ![152, v327.toNat]
def k0_off24 (k0_t1 : Fin k0_t1_loop.trips) : Fin 2 → Nat :=
  let c160 : Index := 160#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v335 : Index := Scalar.indexCast v157
  ![160, v335.toNat]
def k0_off25 (k0_t1 : Fin k0_t1_loop.trips) : Fin 2 → Nat :=
  let c168 : Index := 168#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v343 : Index := Scalar.indexCast v157
  ![168, v343.toNat]
def k0_off26 (k0_t1 : Fin k0_t1_loop.trips) : Fin 2 → Nat :=
  let c176 : Index := 176#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v351 : Index := Scalar.indexCast v157
  ![176, v351.toNat]
def k0_off27 (k0_t1 : Fin k0_t1_loop.trips) : Fin 2 → Nat :=
  let c184 : Index := 184#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v359 : Index := Scalar.indexCast v157
  ![184, v359.toNat]
def k0_off28 (k0_t1 : Fin k0_t1_loop.trips) : Fin 2 → Nat :=
  let c192 : Index := 192#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v367 : Index := Scalar.indexCast v157
  ![192, v367.toNat]
def k0_off29 (k0_t1 : Fin k0_t1_loop.trips) : Fin 2 → Nat :=
  let c200 : Index := 200#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v375 : Index := Scalar.indexCast v157
  ![200, v375.toNat]
def k0_off30 (k0_t1 : Fin k0_t1_loop.trips) : Fin 2 → Nat :=
  let c208 : Index := 208#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v383 : Index := Scalar.indexCast v157
  ![208, v383.toNat]
def k0_off31 (k0_t1 : Fin k0_t1_loop.trips) : Fin 2 → Nat :=
  let c216 : Index := 216#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v391 : Index := Scalar.indexCast v157
  ![216, v391.toNat]
def k0_off32 (k0_t1 : Fin k0_t1_loop.trips) : Fin 2 → Nat :=
  let c224 : Index := 224#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v399 : Index := Scalar.indexCast v157
  ![224, v399.toNat]
def k0_off33 (k0_t1 : Fin k0_t1_loop.trips) : Fin 2 → Nat :=
  let c232 : Index := 232#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v407 : Index := Scalar.indexCast v157
  ![232, v407.toNat]
def k0_off34 (k0_t1 : Fin k0_t1_loop.trips) : Fin 2 → Nat :=
  let c240 : Index := 240#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v415 : Index := Scalar.indexCast v157
  ![240, v415.toNat]
def k0_off35 (k0_t1 : Fin k0_t1_loop.trips) : Fin 2 → Nat :=
  let c248 : Index := 248#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v423 : Index := Scalar.indexCast v157
  ![248, v423.toNat]
def k0_off36 (k0_t1 : Fin k0_t1_loop.trips) : Fin 2 → Nat :=
  let c256_107 : Index := 256#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v431 : Index := Scalar.indexCast v157
  ![256, v431.toNat]
def k0_off37 (k0_t1 : Fin k0_t1_loop.trips) : Fin 2 → Nat :=
  let c264 : Index := 264#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v439 : Index := Scalar.indexCast v157
  ![264, v439.toNat]
def k0_off38 (k0_t1 : Fin k0_t1_loop.trips) : Fin 2 → Nat :=
  let c272 : Index := 272#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v447 : Index := Scalar.indexCast v157
  ![272, v447.toNat]
def k0_off39 (k0_t1 : Fin k0_t1_loop.trips) : Fin 2 → Nat :=
  let c280 : Index := 280#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v455 : Index := Scalar.indexCast v157
  ![280, v455.toNat]
def k0_off40 (k0_t1 : Fin k0_t1_loop.trips) : Fin 2 → Nat :=
  let c288 : Index := 288#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v463 : Index := Scalar.indexCast v157
  ![288, v463.toNat]
def k0_off41 (k0_t1 : Fin k0_t1_loop.trips) : Fin 2 → Nat :=
  let c296 : Index := 296#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v471 : Index := Scalar.indexCast v157
  ![296, v471.toNat]
def k0_off42 (k0_t1 : Fin k0_t1_loop.trips) : Fin 2 → Nat :=
  let c304 : Index := 304#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v479 : Index := Scalar.indexCast v157
  ![304, v479.toNat]
def k0_off43 (k0_t1 : Fin k0_t1_loop.trips) : Fin 2 → Nat :=
  let c312 : Index := 312#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v487 : Index := Scalar.indexCast v157
  ![312, v487.toNat]
def k0_off44 (k0_t1 : Fin k0_t1_loop.trips) : Fin 2 → Nat :=
  let c320 : Index := 320#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v495 : Index := Scalar.indexCast v157
  ![320, v495.toNat]
def k0_off45 (k0_t1 : Fin k0_t1_loop.trips) : Fin 2 → Nat :=
  let c328 : Index := 328#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v503 : Index := Scalar.indexCast v157
  ![328, v503.toNat]
def k0_off46 (k0_t1 : Fin k0_t1_loop.trips) : Fin 2 → Nat :=
  let c336 : Index := 336#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v511 : Index := Scalar.indexCast v157
  ![336, v511.toNat]
def k0_off47 (k0_t1 : Fin k0_t1_loop.trips) : Fin 2 → Nat :=
  let c344 : Index := 344#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v519 : Index := Scalar.indexCast v157
  ![344, v519.toNat]
def k0_off48 (k0_t1 : Fin k0_t1_loop.trips) : Fin 2 → Nat :=
  let c352 : Index := 352#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v527 : Index := Scalar.indexCast v157
  ![352, v527.toNat]
def k0_off49 (k0_t1 : Fin k0_t1_loop.trips) : Fin 2 → Nat :=
  let c360 : Index := 360#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v535 : Index := Scalar.indexCast v157
  ![360, v535.toNat]
def k0_off50 (k0_t1 : Fin k0_t1_loop.trips) : Fin 2 → Nat :=
  let c368 : Index := 368#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v543 : Index := Scalar.indexCast v157
  ![368, v543.toNat]
def k0_off51 (k0_t1 : Fin k0_t1_loop.trips) : Fin 2 → Nat :=
  let c376 : Index := 376#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v551 : Index := Scalar.indexCast v157
  ![376, v551.toNat]
def k0_off52 (k0_t1 : Fin k0_t1_loop.trips) : Fin 2 → Nat :=
  let c384_124 : Index := 384#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v559 : Index := Scalar.indexCast v157
  ![384, v559.toNat]
def k0_off53 (k0_t1 : Fin k0_t1_loop.trips) : Fin 2 → Nat :=
  let c392 : Index := 392#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v567 : Index := Scalar.indexCast v157
  ![392, v567.toNat]
def k0_off54 (k0_t1 : Fin k0_t1_loop.trips) : Fin 2 → Nat :=
  let c400 : Index := 400#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v575 : Index := Scalar.indexCast v157
  ![400, v575.toNat]
def k0_off55 (k0_t1 : Fin k0_t1_loop.trips) : Fin 2 → Nat :=
  let c408 : Index := 408#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v583 : Index := Scalar.indexCast v157
  ![408, v583.toNat]
def k0_off56 (k0_t1 : Fin k0_t1_loop.trips) : Fin 2 → Nat :=
  let c416 : Index := 416#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v591 : Index := Scalar.indexCast v157
  ![416, v591.toNat]
def k0_off57 (k0_t1 : Fin k0_t1_loop.trips) : Fin 2 → Nat :=
  let c424 : Index := 424#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v599 : Index := Scalar.indexCast v157
  ![424, v599.toNat]
def k0_off58 (k0_t1 : Fin k0_t1_loop.trips) : Fin 2 → Nat :=
  let c432 : Index := 432#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v607 : Index := Scalar.indexCast v157
  ![432, v607.toNat]
def k0_off59 (k0_t1 : Fin k0_t1_loop.trips) : Fin 2 → Nat :=
  let c440 : Index := 440#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v615 : Index := Scalar.indexCast v157
  ![440, v615.toNat]
def k0_off60 (k0_t1 : Fin k0_t1_loop.trips) : Fin 2 → Nat :=
  let c448 : Index := 448#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v623 : Index := Scalar.indexCast v157
  ![448, v623.toNat]
def k0_off61 (k0_t1 : Fin k0_t1_loop.trips) : Fin 2 → Nat :=
  let c456 : Index := 456#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v631 : Index := Scalar.indexCast v157
  ![456, v631.toNat]
def k0_off62 (k0_t1 : Fin k0_t1_loop.trips) : Fin 2 → Nat :=
  let c464 : Index := 464#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v639 : Index := Scalar.indexCast v157
  ![464, v639.toNat]
def k0_off63 (k0_t1 : Fin k0_t1_loop.trips) : Fin 2 → Nat :=
  let c472 : Index := 472#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v647 : Index := Scalar.indexCast v157
  ![472, v647.toNat]
def k0_off64 (k0_t1 : Fin k0_t1_loop.trips) : Fin 2 → Nat :=
  let c480 : Index := 480#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v655 : Index := Scalar.indexCast v157
  ![480, v655.toNat]
def k0_off65 (k0_t1 : Fin k0_t1_loop.trips) : Fin 2 → Nat :=
  let c488 : Index := 488#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v663 : Index := Scalar.indexCast v157
  ![488, v663.toNat]
def k0_off66 (k0_t1 : Fin k0_t1_loop.trips) : Fin 2 → Nat :=
  let c496 : Index := 496#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v671 : Index := Scalar.indexCast v157
  ![496, v671.toNat]
def k0_off67 (k0_t1 : Fin k0_t1_loop.trips) : Fin 2 → Nat :=
  let c504 : Index := 504#32
  let c0_i32_62 : BitVec 32 := 0#32
  let c0_i32_58 : BitVec 32 := 0#32
  let c1_i32 : BitVec 32 := 1#32
  let arg11 : BitVec 32 := Scf.iv c0_i32_58 c1_i32 k0_t1
  let c1_i32_61 : BitVec 32 := 1#32
  let v154 : BitVec 32 := Scalar.muli arg11 c1_i32_61
  let v155 : BitVec 32 := Scalar.addi c0_i32_62 v154
  let c128_i32 : BitVec 32 := 128#32
  let v156 : BitVec 32 := Scalar.muli v155 c128_i32
  let v157 : BitVec 32 := v156
  let v679 : Index := Scalar.indexCast v157
  ![504, v679.toNat]
def k0_cond3 (i : grid0.Coords) : BitVec 1 :=
  let arg0 : BitVec 32 := BitVec.ofNat 32 (i 0).val
  let c63_i32 : BitVec 32 := 63#32
  let v151 : BitVec 1 := Scalar.cmpi .eq arg0 c63_i32
  let v152 : BitVec 32 := Scalar.extui v151
  let c0_i32_60 : BitVec 32 := 0#32
  let v153 : BitVec 1 := Scalar.cmpi .ne v152 c0_i32_60
  v153

@[reducible] def k0_t3_loop : Scf.Loop 32 :=
  let c0_i32_61 : BitVec 32 := 0#32
  let c8_i32_62 : BitVec 32 := 8#32
  let v154 : BitVec 32 := Scalar.addi c0_i32_61 c8_i32_62
  let c1_i32_63 : BitVec 32 := 1#32
  ⟨c0_i32_61, v154, c1_i32_63⟩
def k0_mult3 (k0_t3 : Fin k0_t3_loop.trips) : BitVec 32 :=
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  v157
def k0_off68 (k0_t3 : Fin k0_t3_loop.trips) : Fin 2 → Nat :=
  let c0_67 : Index := 0#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v159 : Index := Scalar.indexCast v158
  ![0, v159.toNat]
def k0_off69 (k0_t3 : Fin k0_t3_loop.trips) : Fin 2 → Nat :=
  let c8 : Index := 8#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v161 : Index := Scalar.indexCast v158
  ![8, v161.toNat]
def k0_off70 (k0_t3 : Fin k0_t3_loop.trips) : Fin 2 → Nat :=
  let c16 : Index := 16#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v163 : Index := Scalar.indexCast v158
  ![16, v163.toNat]
def k0_off71 (k0_t3 : Fin k0_t3_loop.trips) : Fin 2 → Nat :=
  let c24 : Index := 24#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v165 : Index := Scalar.indexCast v158
  ![24, v165.toNat]
def k0_off72 (k0_t3 : Fin k0_t3_loop.trips) : Fin 2 → Nat :=
  let c32 : Index := 32#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v167 : Index := Scalar.indexCast v158
  ![32, v167.toNat]
def k0_off73 (k0_t3 : Fin k0_t3_loop.trips) : Fin 2 → Nat :=
  let c40 : Index := 40#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v169 : Index := Scalar.indexCast v158
  ![40, v169.toNat]
def k0_off74 (k0_t3 : Fin k0_t3_loop.trips) : Fin 2 → Nat :=
  let c48 : Index := 48#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v171 : Index := Scalar.indexCast v158
  ![48, v171.toNat]
def k0_off75 (k0_t3 : Fin k0_t3_loop.trips) : Fin 2 → Nat :=
  let c56 : Index := 56#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v173 : Index := Scalar.indexCast v158
  ![56, v173.toNat]
def k0_off76 (k0_t3 : Fin k0_t3_loop.trips) : Fin 2 → Nat :=
  let c64 : Index := 64#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v175 : Index := Scalar.indexCast v158
  ![64, v175.toNat]
def k0_off77 (k0_t3 : Fin k0_t3_loop.trips) : Fin 2 → Nat :=
  let c72 : Index := 72#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v177 : Index := Scalar.indexCast v158
  ![72, v177.toNat]
def k0_off78 (k0_t3 : Fin k0_t3_loop.trips) : Fin 2 → Nat :=
  let c80 : Index := 80#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v179 : Index := Scalar.indexCast v158
  ![80, v179.toNat]
def k0_off79 (k0_t3 : Fin k0_t3_loop.trips) : Fin 2 → Nat :=
  let c88 : Index := 88#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v181 : Index := Scalar.indexCast v158
  ![88, v181.toNat]
def k0_off80 (k0_t3 : Fin k0_t3_loop.trips) : Fin 2 → Nat :=
  let c96 : Index := 96#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v183 : Index := Scalar.indexCast v158
  ![96, v183.toNat]
def k0_off81 (k0_t3 : Fin k0_t3_loop.trips) : Fin 2 → Nat :=
  let c104 : Index := 104#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v185 : Index := Scalar.indexCast v158
  ![104, v185.toNat]
def k0_off82 (k0_t3 : Fin k0_t3_loop.trips) : Fin 2 → Nat :=
  let c112 : Index := 112#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v187 : Index := Scalar.indexCast v158
  ![112, v187.toNat]
def k0_off83 (k0_t3 : Fin k0_t3_loop.trips) : Fin 2 → Nat :=
  let c120 : Index := 120#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v189 : Index := Scalar.indexCast v158
  ![120, v189.toNat]
def k0_off84 (k0_t3 : Fin k0_t3_loop.trips) : Fin 2 → Nat :=
  let c128_68 : Index := 128#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v191 : Index := Scalar.indexCast v158
  ![128, v191.toNat]
def k0_off85 (k0_t3 : Fin k0_t3_loop.trips) : Fin 2 → Nat :=
  let c136 : Index := 136#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v193 : Index := Scalar.indexCast v158
  ![136, v193.toNat]
def k0_off86 (k0_t3 : Fin k0_t3_loop.trips) : Fin 2 → Nat :=
  let c144 : Index := 144#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v195 : Index := Scalar.indexCast v158
  ![144, v195.toNat]
def k0_off87 (k0_t3 : Fin k0_t3_loop.trips) : Fin 2 → Nat :=
  let c152 : Index := 152#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v197 : Index := Scalar.indexCast v158
  ![152, v197.toNat]
def k0_off88 (k0_t3 : Fin k0_t3_loop.trips) : Fin 2 → Nat :=
  let c160 : Index := 160#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v199 : Index := Scalar.indexCast v158
  ![160, v199.toNat]
def k0_off89 (k0_t3 : Fin k0_t3_loop.trips) : Fin 2 → Nat :=
  let c168 : Index := 168#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v201 : Index := Scalar.indexCast v158
  ![168, v201.toNat]
def k0_off90 (k0_t3 : Fin k0_t3_loop.trips) : Fin 2 → Nat :=
  let c176 : Index := 176#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v203 : Index := Scalar.indexCast v158
  ![176, v203.toNat]
def k0_off91 (k0_t3 : Fin k0_t3_loop.trips) : Fin 2 → Nat :=
  let c184 : Index := 184#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v205 : Index := Scalar.indexCast v158
  ![184, v205.toNat]
def k0_off92 (k0_t3 : Fin k0_t3_loop.trips) : Fin 2 → Nat :=
  let c192 : Index := 192#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v207 : Index := Scalar.indexCast v158
  ![192, v207.toNat]
def k0_off93 (k0_t3 : Fin k0_t3_loop.trips) : Fin 2 → Nat :=
  let c200 : Index := 200#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v209 : Index := Scalar.indexCast v158
  ![200, v209.toNat]
def k0_off94 (k0_t3 : Fin k0_t3_loop.trips) : Fin 2 → Nat :=
  let c208 : Index := 208#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v211 : Index := Scalar.indexCast v158
  ![208, v211.toNat]
def k0_off95 (k0_t3 : Fin k0_t3_loop.trips) : Fin 2 → Nat :=
  let c216 : Index := 216#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v213 : Index := Scalar.indexCast v158
  ![216, v213.toNat]
def k0_off96 (k0_t3 : Fin k0_t3_loop.trips) : Fin 2 → Nat :=
  let c224 : Index := 224#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v215 : Index := Scalar.indexCast v158
  ![224, v215.toNat]
def k0_off97 (k0_t3 : Fin k0_t3_loop.trips) : Fin 2 → Nat :=
  let c232 : Index := 232#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v217 : Index := Scalar.indexCast v158
  ![232, v217.toNat]
def k0_off98 (k0_t3 : Fin k0_t3_loop.trips) : Fin 2 → Nat :=
  let c240 : Index := 240#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v219 : Index := Scalar.indexCast v158
  ![240, v219.toNat]
def k0_off99 (k0_t3 : Fin k0_t3_loop.trips) : Fin 2 → Nat :=
  let c248 : Index := 248#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v221 : Index := Scalar.indexCast v158
  ![248, v221.toNat]
def k0_off100 (k0_t3 : Fin k0_t3_loop.trips) : Fin 2 → Nat :=
  let c256_69 : Index := 256#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v223 : Index := Scalar.indexCast v158
  ![256, v223.toNat]
def k0_off101 (k0_t3 : Fin k0_t3_loop.trips) : Fin 2 → Nat :=
  let c264 : Index := 264#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v225 : Index := Scalar.indexCast v158
  ![264, v225.toNat]
def k0_off102 (k0_t3 : Fin k0_t3_loop.trips) : Fin 2 → Nat :=
  let c272 : Index := 272#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v227 : Index := Scalar.indexCast v158
  ![272, v227.toNat]
def k0_off103 (k0_t3 : Fin k0_t3_loop.trips) : Fin 2 → Nat :=
  let c280 : Index := 280#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v229 : Index := Scalar.indexCast v158
  ![280, v229.toNat]
def k0_off104 (k0_t3 : Fin k0_t3_loop.trips) : Fin 2 → Nat :=
  let c288 : Index := 288#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v231 : Index := Scalar.indexCast v158
  ![288, v231.toNat]
def k0_off105 (k0_t3 : Fin k0_t3_loop.trips) : Fin 2 → Nat :=
  let c296 : Index := 296#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v233 : Index := Scalar.indexCast v158
  ![296, v233.toNat]
def k0_off106 (k0_t3 : Fin k0_t3_loop.trips) : Fin 2 → Nat :=
  let c304 : Index := 304#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v235 : Index := Scalar.indexCast v158
  ![304, v235.toNat]
def k0_off107 (k0_t3 : Fin k0_t3_loop.trips) : Fin 2 → Nat :=
  let c312 : Index := 312#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v237 : Index := Scalar.indexCast v158
  ![312, v237.toNat]
def k0_off108 (k0_t3 : Fin k0_t3_loop.trips) : Fin 2 → Nat :=
  let c320 : Index := 320#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v239 : Index := Scalar.indexCast v158
  ![320, v239.toNat]
def k0_off109 (k0_t3 : Fin k0_t3_loop.trips) : Fin 2 → Nat :=
  let c328 : Index := 328#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v241 : Index := Scalar.indexCast v158
  ![328, v241.toNat]
def k0_off110 (k0_t3 : Fin k0_t3_loop.trips) : Fin 2 → Nat :=
  let c336 : Index := 336#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v243 : Index := Scalar.indexCast v158
  ![336, v243.toNat]
def k0_off111 (k0_t3 : Fin k0_t3_loop.trips) : Fin 2 → Nat :=
  let c344 : Index := 344#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v245 : Index := Scalar.indexCast v158
  ![344, v245.toNat]
def k0_off112 (k0_t3 : Fin k0_t3_loop.trips) : Fin 2 → Nat :=
  let c352 : Index := 352#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v247 : Index := Scalar.indexCast v158
  ![352, v247.toNat]
def k0_off113 (k0_t3 : Fin k0_t3_loop.trips) : Fin 2 → Nat :=
  let c360 : Index := 360#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v249 : Index := Scalar.indexCast v158
  ![360, v249.toNat]
def k0_off114 (k0_t3 : Fin k0_t3_loop.trips) : Fin 2 → Nat :=
  let c368 : Index := 368#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v251 : Index := Scalar.indexCast v158
  ![368, v251.toNat]
def k0_off115 (k0_t3 : Fin k0_t3_loop.trips) : Fin 2 → Nat :=
  let c376 : Index := 376#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v253 : Index := Scalar.indexCast v158
  ![376, v253.toNat]
def k0_off116 (k0_t3 : Fin k0_t3_loop.trips) : Fin 2 → Nat :=
  let c384_70 : Index := 384#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v255 : Index := Scalar.indexCast v158
  ![384, v255.toNat]
def k0_off117 (k0_t3 : Fin k0_t3_loop.trips) : Fin 2 → Nat :=
  let c392 : Index := 392#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v257 : Index := Scalar.indexCast v158
  ![392, v257.toNat]
def k0_off118 (k0_t3 : Fin k0_t3_loop.trips) : Fin 2 → Nat :=
  let c400 : Index := 400#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v259 : Index := Scalar.indexCast v158
  ![400, v259.toNat]
def k0_off119 (k0_t3 : Fin k0_t3_loop.trips) : Fin 2 → Nat :=
  let c408 : Index := 408#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v261 : Index := Scalar.indexCast v158
  ![408, v261.toNat]
def k0_off120 (k0_t3 : Fin k0_t3_loop.trips) : Fin 2 → Nat :=
  let c416 : Index := 416#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v263 : Index := Scalar.indexCast v158
  ![416, v263.toNat]
def k0_off121 (k0_t3 : Fin k0_t3_loop.trips) : Fin 2 → Nat :=
  let c424 : Index := 424#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v265 : Index := Scalar.indexCast v158
  ![424, v265.toNat]
def k0_off122 (k0_t3 : Fin k0_t3_loop.trips) : Fin 2 → Nat :=
  let c432 : Index := 432#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v267 : Index := Scalar.indexCast v158
  ![432, v267.toNat]
def k0_off123 (k0_t3 : Fin k0_t3_loop.trips) : Fin 2 → Nat :=
  let c440 : Index := 440#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v269 : Index := Scalar.indexCast v158
  ![440, v269.toNat]
def k0_off124 (k0_t3 : Fin k0_t3_loop.trips) : Fin 2 → Nat :=
  let c448 : Index := 448#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v271 : Index := Scalar.indexCast v158
  ![448, v271.toNat]
def k0_off125 (k0_t3 : Fin k0_t3_loop.trips) : Fin 2 → Nat :=
  let c456 : Index := 456#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v273 : Index := Scalar.indexCast v158
  ![456, v273.toNat]
def k0_off126 (k0_t3 : Fin k0_t3_loop.trips) : Fin 2 → Nat :=
  let c464 : Index := 464#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v275 : Index := Scalar.indexCast v158
  ![464, v275.toNat]
def k0_off127 (k0_t3 : Fin k0_t3_loop.trips) : Fin 2 → Nat :=
  let c472 : Index := 472#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v277 : Index := Scalar.indexCast v158
  ![472, v277.toNat]
def k0_off128 (k0_t3 : Fin k0_t3_loop.trips) : Fin 2 → Nat :=
  let c480 : Index := 480#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v279 : Index := Scalar.indexCast v158
  ![480, v279.toNat]
def k0_off129 (k0_t3 : Fin k0_t3_loop.trips) : Fin 2 → Nat :=
  let c488 : Index := 488#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v281 : Index := Scalar.indexCast v158
  ![488, v281.toNat]
def k0_off130 (k0_t3 : Fin k0_t3_loop.trips) : Fin 2 → Nat :=
  let c496 : Index := 496#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v283 : Index := Scalar.indexCast v158
  ![496, v283.toNat]
def k0_off131 (k0_t3 : Fin k0_t3_loop.trips) : Fin 2 → Nat :=
  let c504 : Index := 504#32
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v285 : Index := Scalar.indexCast v158
  ![504, v285.toNat]
def k0_off132 (k0_t3 : Fin k0_t3_loop.trips) : Fin 2 → Nat :=
  let c0_i32_66 : BitVec 32 := 0#32
  let c0_i32_61 : BitVec 32 := 0#32
  let c1_i32_63 : BitVec 32 := 1#32
  let arg11 : BitVec 32 := Scf.iv c0_i32_61 c1_i32_63 k0_t3
  let c1_i32_65 : BitVec 32 := 1#32
  let v155 : BitVec 32 := Scalar.muli arg11 c1_i32_65
  let v156 : BitVec 32 := Scalar.addi c0_i32_66 v155
  let c128_i32 : BitVec 32 := 128#32
  let v157 : BitVec 32 := Scalar.muli v156 c128_i32
  let v158 : BitVec 32 := v157
  let v1994 : Index := Scalar.indexCast v158
  let c0_313 : Index := 0#32
  ![v1994.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4x256x4096 : Shape := ⟨3, ![4, 256, 4096]⟩
abbrev S65536x4096 : Shape := ⟨2, ![65536, 4096]⟩
abbrev S65536 : Shape := ⟨1, ![65536]⟩
abbrev S1024x4096 : Shape := ⟨2, ![1024, 4096]⟩
abbrev S_ : Shape := ⟨0, ![]⟩
abbrev S1024 : Shape := ⟨1, ![1024]⟩
abbrev S1024x65536 : Shape := ⟨2, ![1024, 65536]⟩
abbrev S1024x1 : Shape := ⟨2, ![1024, 1]⟩
abbrev S1x65536 : Shape := ⟨2, ![1, 65536]⟩
abbrev S1024x1024x64 : Shape := ⟨3, ![1024, 1024, 64]⟩
abbrev S1024x1024 : Shape := ⟨2, ![1024, 1024]⟩
abbrev S1024x64 : Shape := ⟨2, ![1024, 64]⟩
abbrev S1024x64x1 : Shape := ⟨3, ![1024, 64, 1]⟩
abbrev S1 : Shape := ⟨1, ![1]⟩
abbrev S1x1x1 : Shape := ⟨3, ![1, 1, 1]⟩
abbrev S1024x64x64 : Shape := ⟨3, ![1024, 64, 64]⟩
abbrev S4x256x64 : Shape := ⟨3, ![4, 256, 64]⟩

abbrev nBuf : Space → Nat
  | .hbm => 53
  | .vmem => 0
  | .smem => 0
  | _ => 0

abbrev bufTy : (tb : Table) → Fin (tcTables nBuf tb) → BufTy
  | .hbm, ⟨0, _⟩ => ⟨S4x256x4096, .bf16⟩
  | .hbm, ⟨1, _⟩ => ⟨S65536x4096, .i8⟩
  | .hbm, ⟨2, _⟩ => ⟨S65536, .f32⟩
  | .hbm, ⟨3, _⟩ => ⟨S65536, .i32⟩
  | .hbm, ⟨4, _⟩ => ⟨S1024x4096, .bf16⟩
  | .hbm, ⟨5, _⟩ => ⟨S1024x4096, .f32⟩
  | .hbm, ⟨6, _⟩ => ⟨S_, .f32⟩
  | .hbm, ⟨7, _⟩ => ⟨S1024, .f32⟩
  | .hbm, ⟨8, _⟩ => ⟨S65536x4096, .i32⟩
  | .hbm, ⟨9, _⟩ => ⟨S65536x4096, .bf16⟩
  | .hbm, ⟨10, _⟩ => ⟨S1024x65536, .f32⟩
  | .hbm, ⟨11, _⟩ => ⟨S1024x1, .f32⟩
  | .hbm, ⟨12, _⟩ => ⟨S1x65536, .i32⟩
  | .hbm, ⟨13, _⟩ => ⟨S1x65536, .f32⟩
  | .hbm, ⟨14, _⟩ => ⟨S1024x65536, .f32⟩
  | .hbm, ⟨15, _⟩ => ⟨S1024x65536, .f32⟩
  | .hbm, ⟨16, _⟩ => ⟨S1024x65536, .f32⟩
  | .hbm, ⟨17, _⟩ => ⟨S1024x65536, .f32⟩
  | .hbm, ⟨18, _⟩ => ⟨S1x65536, .f32⟩
  | .hbm, ⟨19, _⟩ => ⟨S1024x65536, .f32⟩
  | .hbm, ⟨20, _⟩ => ⟨S1024x65536, .f32⟩
  | .hbm, ⟨21, _⟩ => ⟨S1024x1024x64, .f32⟩
  | .hbm, ⟨22, _⟩ => ⟨S_, .f32⟩
  | .hbm, ⟨23, _⟩ => ⟨S1024x1024, .f32⟩
  | .hbm, ⟨24, _⟩ => ⟨S1024x64, .f32⟩
  | .hbm, ⟨25, _⟩ => ⟨S1024x64, .i32⟩
  | .hbm, ⟨26, _⟩ => ⟨S1024x64x1, .i32⟩
  | .hbm, ⟨27, _⟩ => ⟨S_, .i32⟩
  | .hbm, ⟨28, _⟩ => ⟨S1024x64x1, .i32⟩
  | .hbm, ⟨29, _⟩ => ⟨S1024x64x1, .i1⟩
  | .hbm, ⟨30, _⟩ => ⟨S_, .i32⟩
  | .hbm, ⟨31, _⟩ => ⟨S1024x64x1, .i32⟩
  | .hbm, ⟨32, _⟩ => ⟨S1024x64x1, .i32⟩
  | .hbm, ⟨33, _⟩ => ⟨S1024x64x1, .i32⟩
  | .hbm, ⟨34, _⟩ => ⟨S1, .i32⟩
  | .hbm, ⟨35, _⟩ => ⟨S_, .i32⟩
  | .hbm, ⟨36, _⟩ => ⟨S1024x64x1, .i32⟩
  | .hbm, ⟨37, _⟩ => ⟨S1024x64x1, .i1⟩
  | .hbm, ⟨38, _⟩ => ⟨S1x1x1, .i32⟩
  | .hbm, ⟨39, _⟩ => ⟨S1024x64x1, .i32⟩
  | .hbm, ⟨40, _⟩ => ⟨S1024x64x1, .i1⟩
  | .hbm, ⟨41, _⟩ => ⟨S1024x64x1, .i1⟩
  | .hbm, ⟨42, _⟩ => ⟨S_, .i1⟩
  | .hbm, ⟨43, _⟩ => ⟨S1024x64, .i1⟩
  | .hbm, ⟨44, _⟩ => ⟨S1024x64x64, .f32⟩
  | .hbm, ⟨45, _⟩ => ⟨S1024x64x64, .i1⟩
  | .hbm, ⟨46, _⟩ => ⟨S_, .f32⟩
  | .hbm, ⟨47, _⟩ => ⟨S1024x64x64, .f32⟩
  | .hbm, ⟨48, _⟩ => ⟨S1024x64x64, .f32⟩
  | .hbm, ⟨49, _⟩ => ⟨S1024x4096, .f32⟩
  | .hbm, ⟨50, _⟩ => ⟨S1024x64, .f32⟩
  | .hbm, ⟨51, _⟩ => ⟨S1024x64, .i32⟩
  | .hbm, ⟨52, _⟩ => ⟨S4x256x64, .f32⟩
  | _, _ => ⟨S4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_values : Ref sig .tc := ⟨.hbm, 24, rfl⟩
abbrev main_indices : Ref sig .tc := ⟨.hbm, 25, rfl⟩
abbrev main_v18 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_c_2 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_c_3 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_cst : Ref sig .tc := ⟨.hbm, 46, rfl⟩
abbrev main_call0_v14 : Ref sig .tc := ⟨.hbm, 47, rfl⟩
abbrev main_v19 : Ref sig .tc := ⟨.hbm, 48, rfl⟩
abbrev main_v20 : Ref sig .tc := ⟨.hbm, 49, rfl⟩
abbrev main_values_1 : Ref sig .tc := ⟨.hbm, 50, rfl⟩
abbrev main_indices_2 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Network.lean ====
/-
  The comparator networks of the kernel, on lists of any type: the bitonic network that puts a bitonic list into
  order, and the merge of two ordered lists of equal length that keeps the upper half.
-/
module

public import Mathlib.Data.List.Basic

@[expose] public section

namespace Cert.TopK

/-- The bitonic network on `2 ^ k` elements: a column of comparators between the two halves (`mx` to the front, `mn` to
    the back), then the network of half the size on each half. -/
def bitonic {α : Type} (mx mn : α → α → α) : Nat → List α → List α
  | 0, l => l
  | k + 1, l =>
    bitonic mx mn k (List.zipWith mx (l.take (2 ^ k)) (l.drop (2 ^ k)))
      ++ bitonic mx mn k (List.zipWith mn (l.take (2 ^ k)) (l.drop (2 ^ k)))

/-- The upper half of the union of two ordered lists of length `2 ^ k`, in order. -/
def mergeTop {α : Type} (mx mn : α → α → α) (k : Nat) (a b : List α) : List α :=
  bitonic mx mn k (List.zipWith mx a b.reverse)

end Cert.TopK
-- ==== Proof.Body.lean ====
/-
  The kernel's body, written with loops over lists where the printed program repeats a statement 64 or 8 times:
  `body`, and `body_eq`, which says the printed kernel function is `body`.
-/
module

public import proofs.«01_k».proof.Proof.Gen.KernelIdeal.Skeleton
public import proofs.«01_k».proof.Proof.Network

@[expose] public section

set_option maxRecDepth 65536

noncomputable section

namespace Cert.KernelIdeal.Gen

open Idealize.ShloMosaic Idealize.SL.Sem Cert.TopK

variable {F : FTy → Type} [FloatOps F]

/-- Where a block of eight rows and 128 columns lies within the state. -/
abbrev SlotAt := {o : Fin 2 → Nat // ∀ a, o a + S8x128.size a ≤ S512x1024.size a}

/-- The 64 slots of column group `t`, as the insertion visits them. -/
def slots (t : Fin k0_t1_loop.trips) : List SlotAt :=
  [⟨k0_off4 t, k0_off4_inb t⟩,
   ⟨k0_off5 t, k0_off5_inb t⟩,
   ⟨k0_off6 t, k0_off6_inb t⟩,
   ⟨k0_off7 t, k0_off7_inb t⟩,
   ⟨k0_off8 t, k0_off8_inb t⟩,
   ⟨k0_off9 t, k0_off9_inb t⟩,
   ⟨k0_off10 t, k0_off10_inb t⟩,
   ⟨k0_off11 t, k0_off11_inb t⟩,
   ⟨k0_off12 t, k0_off12_inb t⟩,
   ⟨k0_off13 t, k0_off13_inb t⟩,
   ⟨k0_off14 t, k0_off14_inb t⟩,
   ⟨k0_off15 t, k0_off15_inb t⟩,
   ⟨k0_off16 t, k0_off16_inb t⟩,
   ⟨k0_off17 t, k0_off17_inb t⟩,
   ⟨k0_off18 t, k0_off18_inb t⟩,
   ⟨k0_off19 t, k0_off19_inb t⟩,
   ⟨k0_off20 t, k0_off20_inb t⟩,
   ⟨k0_off21 t, k0_off21_inb t⟩,
   ⟨k0_off22 t, k0_off22_inb t⟩,
   ⟨k0_off23 t, k0_off23_inb t⟩,
   ⟨k0_off24 t, k0_off24_inb t⟩,
   ⟨k0_off25 t, k0_off25_inb t⟩,
   ⟨k0_off26 t, k0_off26_inb t⟩,
   ⟨k0_off27 t, k0_off27_inb t⟩,
   ⟨k0_off28 t, k0_off28_inb t⟩,
   ⟨k0_off29 t, k0_off29_inb t⟩,
   ⟨k0_off30 t, k0_off30_inb t⟩,
   ⟨k0_off31 t, k0_off31_inb t⟩,
   ⟨k0_off32 t, k0_off32_inb t⟩,
   ⟨k0_off33 t, k0_off33_inb t⟩,
   ⟨k0_off34 t, k0_off34_inb t⟩,
   ⟨k0_off35 t, k0_off35_inb t⟩,
   ⟨k0_off36 t, k0_off36_inb t⟩,
   ⟨k0_off37 t, k0_off37_inb t⟩,
   ⟨k0_off38 t, k0_off38_inb t⟩,
   ⟨k0_off39 t, k0_off39_inb t⟩,
   ⟨k0_off40 t, k0_off40_inb t⟩,
   ⟨k0_off41 t, k0_off41_inb t⟩,
   ⟨k0_off42 t, k0_off42_inb t⟩,
   ⟨k0_off43 t, k0_off43_inb t⟩,
   ⟨k0_off44 t, k0_off44_inb t⟩,
   ⟨k0_off45 t, k0_off45_inb t⟩,
   ⟨k0_off46 t, k0_off46_inb t⟩,
   ⟨k0_off47 t, k0_off47_inb t⟩,
   ⟨k0_off48 t, k0_off48_inb t⟩,
   ⟨k0_off49 t, k0_off49_inb t⟩,
   ⟨k0_off50 t, k0_off50_inb t⟩,
   ⟨k0_off51 t, k0_off51_inb t⟩,
   ⟨k0_off52 t, k0_off52_inb t⟩,
   ⟨k0_off53 t, k0_off53_inb t⟩,
   ⟨k0_off54 t, k0_off54_inb t⟩,
   ⟨k0_off55 t, k0_off55_inb t⟩,
   ⟨k0_off56 t, k0_off56_inb t⟩,
   ⟨k0_off57 t, k0_off57_inb t⟩,
   ⟨k0_off58 t, k0_off58_inb t⟩,
   ⟨k0_off59 t, k0_off59_inb t⟩,
   ⟨k0_off60 t, k0_off60_inb t⟩,
   ⟨k0_off61 t, k0_off61_inb t⟩,
   ⟨k0_off62 t, k0_off62_inb t⟩,
   ⟨k0_off63 t, k0_off63_inb t⟩,
   ⟨k0_off64 t, k0_off64_inb t⟩,
   ⟨k0_off65 t, k0_off65_inb t⟩,
   ⟨k0_off66 t, k0_off66_inb t⟩,
   ⟨k0_off67 t, k0_off67_inb t⟩]

/-- The 64 slots of column group `t`, as the last step reads them. -/
def lastSlots (i : grid0.Coords) (h : k0_cond3 i = 1#1) (t : Fin k0_t3_loop.trips) : List SlotAt :=
  [⟨k0_off68 t, k0_off68_inb i t h⟩,
   ⟨k0_off69 t, k0_off69_inb i t h⟩,
   ⟨k0_off70 t, k0_off70_inb i t h⟩,
   ⟨k0_off71 t, k0_off71_inb i t h⟩,
   ⟨k0_off72 t, k0_off72_inb i t h⟩,
   ⟨k0_off73 t, k0_off73_inb i t h⟩,
   ⟨k0_off74 t, k0_off74_inb i t h⟩,
   ⟨k0_off75 t, k0_off75_inb i t h⟩,
   ⟨k0_off76 t, k0_off76_inb i t h⟩,
   ⟨k0_off77 t, k0_off77_inb i t h⟩,
   ⟨k0_off78 t, k0_off78_inb i t h⟩,
   ⟨k0_off79 t, k0_off79_inb i t h⟩,
   ⟨k0_off80 t, k0_off80_inb i t h⟩,
   ⟨k0_off81 t, k0_off81_inb i t h⟩,
   ⟨k0_off82 t, k0_off82_inb i t h⟩,
   ⟨k0_off83 t, k0_off83_inb i t h⟩,
   ⟨k0_off84 t, k0_off84_inb i t h⟩,
   ⟨k0_off85 t, k0_off85_inb i t h⟩,
   ⟨k0_off86 t, k0_off86_inb i t h⟩,
   ⟨k0_off87 t, k0_off87_inb i t h⟩,
   ⟨k0_off88 t, k0_off88_inb i t h⟩,
   ⟨k0_off89 t, k0_off89_inb i t h⟩,
   ⟨k0_off90 t, k0_off90_inb i t h⟩,
   ⟨k0_off91 t, k0_off91_inb i t h⟩,
   ⟨k0_off92 t, k0_off92_inb i t h⟩,
   ⟨k0_off93 t, k0_off93_inb i t h⟩,
   ⟨k0_off94 t, k0_off94_inb i t h⟩,
   ⟨k0_off95 t, k0_off95_inb i t h⟩,
   ⟨k0_off96 t, k0_off96_inb i t h⟩,
   ⟨k0_off97 t, k0_off97_inb i t h⟩,
   ⟨k0_off98 t, k0_off98_inb i t h⟩,
   ⟨k0_off99 t, k0_off99_inb i t h⟩,
   ⟨k0_off100 t, k0_off100_inb i t h⟩,
   ⟨k0_off101 t, k0_off101_inb i t h⟩,
   ⟨k0_off102 t, k0_off102_inb i t h⟩,
   ⟨k0_off103 t, k0_off103_inb i t h⟩,
   ⟨k0_off104 t, k0_off104_inb i t h⟩,
   ⟨k0_off105 t, k0_off105_inb i t h⟩,
   ⟨k0_off106 t, k0_off106_inb i t h⟩,
   ⟨k0_off107 t, k0_off107_inb i t h⟩,
   ⟨k0_off108 t, k0_off108_inb i t h⟩,
   ⟨k0_off109 t, k0_off109_inb i t h⟩,
   ⟨k0_off110 t, k0_off110_inb i t h⟩,
   ⟨k0_off111 t, k0_off111_inb i t h⟩,
   ⟨k0_off112 t, k0_off112_inb i t h⟩,
   ⟨k0_off113 t, k0_off113_inb i t h⟩,
   ⟨k0_off114 t, k0_off114_inb i t h⟩,
   ⟨k0_off115 t, k0_off115_inb i t h⟩,
   ⟨k0_off116 t, k0_off116_inb i t h⟩,
   ⟨k0_off117 t, k0_off117_inb i t h⟩,
   ⟨k0_off118 t, k0_off118_inb i t h⟩,
   ⟨k0_off119 t, k0_off119_inb i t h⟩,
   ⟨k0_off120 t, k0_off120_inb i t h⟩,
   ⟨k0_off121 t, k0_off121_inb i t h⟩,
   ⟨k0_off122 t, k0_off122_inb i t h⟩,
   ⟨k0_off123 t, k0_off123_inb i t h⟩,
   ⟨k0_off124 t, k0_off124_inb i t h⟩,
   ⟨k0_off125 t, k0_off125_inb i t h⟩,
   ⟨k0_off126 t, k0_off126_inb i t h⟩,
   ⟨k0_off127 t, k0_off127_inb i t h⟩,
   ⟨k0_off128 t, k0_off128_inb i t h⟩,
   ⟨k0_off129 t, k0_off129_inb i t h⟩,
   ⟨k0_off130 t, k0_off130_inb i t h⟩,
   ⟨k0_off131 t, k0_off131_inb i t h⟩]

/-- Inserting one tile into the slots of a list: each keeps the greater of what it holds and the tile carried on,
    the lesser is carried on. -/
def insertAll (arg10 : Memref sig .tc .vmem S512x1024 .f32) : List SlotAt → FVec F S8x128 .f32 →
    Prog (TpuEff nD τ sig (Elt F) Λ₀ .tc) Unit
  | [], _ => pure ⟨⟩
  | o :: os, v => do
    let cur : Vec F S8x128 .f32 ← Prog.lift (.load arg10 (Rect.unit (s := S512x1024) o.1 S8x128.size o.2).toLoadRect (View.loadsAt_vmem h_S8x128))
    let _ : Vec F S8x128 .f32 ← Prog.lift (.load arg10 (Rect.unit (s := S512x1024) o.1 S8x128.size o.2).toLoadRect (View.loadsAt_vmem h_S8x128))
    Prog.lift (.store arg10 (Rect.unit (s := S512x1024) o.1 S8x128.size o.2) (shapeCast S8x128 (maximumf cur v) shapeCasts_S8x128_S8x128) Finset.univ (View.stores_vmem_bits_univ h_S8x128 rfl) (.inl rfl))
    insertAll arg10 os (minimumf cur v)

/-- The scores of eight database rows for 128 query rows: the product's tile, corrected by the zero points and scaled. -/
def scoreTile (xs a z s : FVec F S8x128 .f32) : FVec F S8x128 .f32 := mulf (subf a (mulf xs z)) s

/-- Trip `u` of the inner loop: the scores of database rows `8u … 8u+7` of the tile, inserted in column group `t`. -/
def trip (arg6 : Memref sig .tc .vmem S1024x1024 .f32) (arg8 arg9 : Memref sig .tc .vmem S1024x128 .f32)
    (arg10 : Memref sig .tc .vmem S512x1024 .f32) (t : Fin k0_t1_loop.trips) (xs : FVec F S8x128 .f32)
    (u : Fin k0_t2_loop.trips) : Prog (TpuEff nD τ sig (Elt F) Λ₀ .tc) Unit := do
  let a : Vec F S8x128 .f32 ← Prog.lift (.load arg6 (Rect.unit (s := S1024x1024) (k0_off2 t u) S8x128.size (k0_off2_inb t u)).toLoadRect (View.loadsAt_vmem h_S8x128))
  let z : Vec F S8x128 .f32 ← Prog.lift (.load arg8 (Rect.unit (s := S1024x128) (k0_off3 u) S8x128.size (k0_off3_inb u)).toLoadRect (View.loadsAt_vmem h_S8x128))
  let s : Vec F S8x128 .f32 ← Prog.lift (.load arg9 (Rect.unit (s := S1024x128) (k0_off3 u) S8x128.size (k0_off3_inb u)).toLoadRect (View.loadsAt_vmem h_S8x128))
  insertAll arg10 (slots t) (scoreTile xs a z s)

/-- Trip `t` of the outer loop: all 1024 database rows of the tile, inserted in column group `t`. -/
def group (arg6 : Memref sig .tc .vmem S1024x1024 .f32) (arg7 : Memref sig .tc .vmem S8x1024 .f32)
    (arg8 arg9 : Memref sig .tc .vmem S1024x128 .f32) (arg10 : Memref sig .tc .vmem S512x1024 .f32)
    (t : Fin k0_t1_loop.trips) : Prog (TpuEff nD τ sig (Elt F) Λ₀ .tc) Unit := do
  let xs : Vec F S8x128 .f32 ← Prog.lift (.load arg7 (Rect.unit (s := S8x1024) (k0_off1 t) S8x128.size (k0_off1_inb t)).toLoadRect (View.loadsAt_vmem h_S8x128))
  Scf.Loop.for k0_t2_loop k0_t2_ok ⟨⟩ fun u _ => trip arg6 arg8 arg9 arg10 t xs u
  pure ⟨⟩

/-- Loading the tiles of a list of slots. -/
def loadAll (arg10 : Memref sig .tc .vmem S512x1024 .f32) : List SlotAt →
    Prog (TpuEff nD τ sig (Elt F) Λ₀ .tc) (List (FVec F S8x128 .f32))
  | [] => pure []
  | o :: os => do
    let x : Vec F S8x128 .f32 ← Prog.lift (.load arg10 (Rect.unit (s := S512x1024) o.1 S8x128.size o.2).toLoadRect (View.loadsAt_vmem h_S8x128))
    let xs ← loadAll arg10 os
    pure (x :: xs)

/-- A tile rotated down by `n` of its eight rows. -/
def roll (n : BitVec 32) (v : FVec F S8x128 .f32) : FVec F S8x128 .f32 := dynamicRotate 0 n none v rotates_S8x128_d0

/-- The lists of each row merged with those of the row `n` above. -/
def mergeRoll (n : BitVec 32) (l : List (FVec F S8x128 .f32)) : List (FVec F S8x128 .f32) :=
  mergeTop maximumf minimumf 6 l (l.map (roll n))

/-- The lists of the eight rows merged into one, which every row then holds. -/
def mergeSublanes (l : List (FVec F S8x128 .f32)) : List (FVec F S8x128 .f32) :=
  mergeRoll 1#32 (mergeRoll 2#32 (mergeRoll 4#32 l))

/-- Tile `k` of a list. -/
def nth (l : List (FVec F S8x128 .f32)) (k : Nat) : FVec F S8x128 .f32 :=
  l.getD k (constant S8x128 .f32 0x00000000#32)

/-- The tile whose row `r` is row `r` of tile `8 g + r`, for `r` up to a bound. -/
def pick (l : List (FVec F S8x128 .f32)) (g : Nat) : Nat → FVec F S8x128 .f32
  | 0 => nth l (8 * g)
  | r + 1 => select (cmpi .eq (iota .tc S8x128 32 [0] iota_S8x128_d0_w32) (broadcast S8x128 (BitVec.ofNat 32 (r + 1))))
      (nth l (8 * g + (r + 1))) (pick l g r)

/-- The result block of 128 query rows, from the 64 tiles: query row `c`'s entry `k` is column `c` of tile `k`. -/
def resultOf (l : List (FVec F S8x128 .f32)) : FVec F S128x64 .f32 :=
  transpose S128x64 [1, 0] (concatenate S64x128 0 [⟨S8x128, pick l 0 7⟩, ⟨S8x128, pick l 1 7⟩, ⟨S8x128, pick l 2 7⟩, ⟨S8x128, pick l 3 7⟩, ⟨S8x128, pick l 4 7⟩, ⟨S8x128, pick l 5 7⟩, ⟨S8x128, pick l 6 7⟩, ⟨S8x128, pick l 7 7⟩] concatenates_S8x128_S8x128_S8x128_S8x128_S8x128_S8x128_S8x128_S8x128_S64x128_d0) transposes_S64x128_p1_0_S128x64

/-- Trip `t` of the last step's loop: the result block of column group `t`. -/
def finish (arg5 : Memref sig .tc .vmem S1024x64 .f32) (arg10 : Memref sig .tc .vmem S512x1024 .f32) (i : grid0.Coords)
    (h : k0_cond3 i = 1#1) (t : Fin k0_t3_loop.trips) : Prog (TpuEff nD τ sig (Elt F) Λ₀ .tc) Unit := do
  let l ← loadAll (F := F) arg10 (lastSlots i h t)
  let _ : Vec F S128x64 .f32 ← Prog.lift (.load arg5 (Rect.unit (s := S1024x64) (k0_off132 t) S128x64.size (k0_off132_inb i t h)).toLoadRect (View.loadsAt_vmem h_S128x64))
  Prog.lift (.store arg5 (Rect.unit (s := S1024x64) (k0_off132 t) S128x64.size (k0_off132_inb i t h)) (resultOf (F := F) (mergeSublanes l)) Finset.univ (View.stores_vmem_bits_univ h_S128x64 rfl) (.inl rfl))

theorem side_in (j : Fin 8) : ∀ a, (![j.val, 0] : Fin 2 → Nat) a + S1x128.size a ≤ S8x128.size a := by
  revert j; decide
theorem side_out (j : Fin 8) : ∀ a, (![128 * j.val, 0] : Fin 2 → Nat) a + S128x128.size a ≤ S1024x128.size a := by
  revert j; decide

/-- Row `j` of the zero points, then of the scales, each turned into a column block of 128 equal columns. -/
def sideRow (arg3 : Memref sig .tc .vmem S8x128 .f32) (arg4 : Memref sig .tc .vmem S8x128 .i32)
    (arg8 arg9 : Memref sig .tc .vmem S1024x128 .f32) (j : Fin 8) : Prog (TpuEff nD τ sig (Elt F) Λ₀ .tc) Unit := do
  let z : Vec F S1x128 .i32 ← Prog.lift (.load arg4 (Rect.unit (s := S8x128) ![j.val, 0] S1x128.size (side_in j)).toLoadRect (View.loadsAt_vmem h_S1x128))
  let _ : Vec F S128x128 .f32 ← Prog.lift (.load arg8 (Rect.unit (s := S1024x128) ![128 * j.val, 0] S128x128.size (side_out j)).toLoadRect (View.loadsAt_vmem h_S128x128))
  Prog.lift (.store arg8 (Rect.unit (s := S1024x128) ![128 * j.val, 0] S128x128.size (side_out j)) (k0_pay1650 z) Finset.univ (View.stores_vmem_bits_univ h_S128x128 rfl) (.inl rfl))
  let s : Vec F S1x128 .f32 ← Prog.lift (.load arg3 (Rect.unit (s := S8x128) ![j.val, 0] S1x128.size (side_in j)).toLoadRect (View.loadsAt_vmem h_S1x128))
  let _ : Vec F S128x128 .f32 ← Prog.lift (.load arg9 (Rect.unit (s := S1024x128) ![128 * j.val, 0] S128x128.size (side_out j)).toLoadRect (View.loadsAt_vmem h_S128x128))
  Prog.lift (.store arg9 (Rect.unit (s := S1024x128) ![128 * j.val, 0] S128x128.size (side_out j)) (k0_pay1651 s) Finset.univ (View.stores_vmem_bits_univ h_S128x128 rfl) (.inl rfl))

/-- The rows of a list, one after another. -/
def sideRows (arg3 : Memref sig .tc .vmem S8x128 .f32) (arg4 : Memref sig .tc .vmem S8x128 .i32)
    (arg8 arg9 : Memref sig .tc .vmem S1024x128 .f32) : List (Fin 8) → Prog (TpuEff nD τ sig (Elt F) Λ₀ .tc) Unit
  | [] => pure ⟨⟩
  | j :: js => do
    sideRow arg3 arg4 arg8 arg9 j
    sideRows arg3 arg4 arg8 arg9 js

theorem sideRows_cons (arg3 : Memref sig .tc .vmem S8x128 .f32) (arg4 : Memref sig .tc .vmem S8x128 .i32)
    (arg8 arg9 : Memref sig .tc .vmem S1024x128 .f32) (j : Fin 8) (js : List (Fin 8)) :
    sideRows (F := F) arg3 arg4 arg8 arg9 (j :: js) = (do
      sideRow arg3 arg4 arg8 arg9 j
      sideRows arg3 arg4 arg8 arg9 js) := rfl

/-- One exactly at the first step. -/
def isFirst (i : grid0.Coords) : BitVec 1 :=
  Scalar.cmpi .ne (Scalar.extui (Scalar.cmpi .eq (BitVec.ofNat 32 (i 0).val) 0#32)) (0#32)

/-- The state emptied, at the first step. -/
def clear (i : grid0.Coords) (arg10 : Memref sig .tc .vmem S512x1024 .f32) : Prog (TpuEff nD τ sig (Elt F) Λ₀ .tc) Unit :=
  if _h : isFirst i = 1#1 then do
    let _ : Vec F S512x1024 .f32 ← Prog.lift (.load arg10 (Rect.unit (s := S512x1024) ![0, 0] S512x1024.size inb_S512x1024_S512x1024_0_0).toLoadRect (View.loadsAt_vmem h_S512x1024))
    Prog.lift (.store arg10 (Rect.unit (s := S512x1024) ![0, 0] S512x1024.size inb_S512x1024_S512x1024_0_0) (k0_pay1648 (F := F)) Finset.univ (View.stores_vmem_bits_univ h_S512x1024 rfl) (.inl rfl))
  else pure ⟨⟩

/-- The sums of the queries' rows, at the first step. -/
def sums (i : grid0.Coords) (arg1 : Memref sig .tc .vmem S1024x4096 .bf16) (arg7 : Memref sig .tc .vmem S8x1024 .f32) :
    Prog (TpuEff nD τ sig (Elt F) Λ₀ .tc) Unit :=
  if _h : isFirst i = 1#1 then do
    let x : Vec F S1024x4096 .bf16 ← Prog.lift (.load arg1 (Rect.unit (s := S1024x4096) ![0, 0] S1024x4096.size inb_S1024x4096_S1024x4096_0_0).toLoadRect (View.loadsAt_vmem h_S1024x4096))
    let _ : Vec F S8x1024 .f32 ← Prog.lift (.load arg7 (Rect.unit (s := S8x1024) ![0, 0] S8x1024.size inb_S8x1024_S8x1024_0_0).toLoadRect (View.loadsAt_vmem h_S8x1024))
    Prog.lift (.store arg7 (Rect.unit (s := S8x1024) ![0, 0] S8x1024.size inb_S8x1024_S8x1024_0_0) (k0_pay1649 x) Finset.univ (View.stores_vmem_bits_univ h_S8x1024 rfl) (.inl rfl))
  else pure ⟨⟩

/-- The products of the tile's database rows with every query row. -/
def products (arg1 : Memref sig .tc .vmem S1024x4096 .bf16) (arg2 : Memref sig .tc .vmem S1024x4096 .i8)
    (arg6 : Memref sig .tc .vmem S1024x1024 .f32) : Prog (TpuEff nD τ sig (Elt F) Λ₀ .tc) Unit := do
  let c : Vec F S1024x4096 .i8 ← Prog.lift (.load arg2 (Rect.unit (s := S1024x4096) ![0, 0] S1024x4096.size inb_S1024x4096_S1024x4096_0_0).toLoadRect (View.loadsAt_vmem h_S1024x4096))
  let x : Vec F S1024x4096 .bf16 ← Prog.lift (.load arg1 (Rect.unit (s := S1024x4096) ![0, 0] S1024x4096.size inb_S1024x4096_S1024x4096_0_0).toLoadRect (View.loadsAt_vmem h_S1024x4096))
  let _ : Vec F S1024x1024 .f32 ← Prog.lift (.load arg6 (Rect.unit (s := S1024x1024) ![0, 0] S1024x1024.size inb_S1024x1024_S1024x1024_0_0).toLoadRect (View.loadsAt_vmem h_S1024x1024))
  Prog.lift (.store arg6 (Rect.unit (s := S1024x1024) ![0, 0] S1024x1024.size inb_S1024x1024_S1024x1024_0_0) (k0_pay1 (k0_pay1668 c x)) Finset.univ (View.stores_vmem_bits_univ h_S1024x1024 rfl) (.inl rfl))

/-- The result written, at the last step. -/
def result (i : grid0.Coords) (arg5 : Memref sig .tc .vmem S1024x64 .f32) (arg10 : Memref sig .tc .vmem S512x1024 .f32) :
    Prog (TpuEff nD τ sig (Elt F) Λ₀ .tc) Unit :=
  if h : k0_cond3 i = 1#1 then do
    Scf.Loop.for k0_t3_loop (k0_t3_ok i h) ⟨⟩ fun t _ => finish (F := F) arg5 arg10 i h t
    pure ⟨⟩
  else pure ⟨⟩

/-- The kernel's body. -/
def body (i : grid0.Coords) (arg1 : Memref sig .tc .vmem S1024x4096 .bf16)
    (arg2 : Memref sig .tc .vmem S1024x4096 .i8)
    (arg3 : Memref sig .tc .vmem S8x128 .f32)
    (arg4 : Memref sig .tc .vmem S8x128 .i32)
    (arg5 : Memref sig .tc .vmem S1024x64 .f32)
    (arg6 : Memref sig .tc .vmem S1024x1024 .f32)
    (arg7 : Memref sig .tc .vmem S8x1024 .f32)
    (arg8 : Memref sig .tc .vmem S1024x128 .f32)
    (arg9 : Memref sig .tc .vmem S1024x128 .f32)
    (arg10 : Memref sig .tc .vmem S512x1024 .f32) :
    Prog (TpuEff nD τ sig (Elt F) Λ₀ .tc) Unit := do
  clear i arg10
  sums i arg1 arg7
  sideRows arg3 arg4 arg8 arg9 [0, 1, 2, 3, 4, 5, 6, 7]
  products arg1 arg2 arg6
  Scf.Loop.for k0_t1_loop k0_t1_ok ⟨⟩ fun t _ => group arg6 arg7 arg8 arg9 arg10 t
  result i arg5 arg10
  pure ⟨⟩

/-- The same, laid out as the printed function is: what follows a conditional stands in both its branches. -/
def bodyPrinted (i : grid0.Coords) (arg1 : Memref sig .tc .vmem S1024x4096 .bf16)
    (arg2 : Memref sig .tc .vmem S1024x4096 .i8)
    (arg3 : Memref sig .tc .vmem S8x128 .f32)
    (arg4 : Memref sig .tc .vmem S8x128 .i32)
    (arg5 : Memref sig .tc .vmem S1024x64 .f32)
    (arg6 : Memref sig .tc .vmem S1024x1024 .f32)
    (arg7 : Memref sig .tc .vmem S8x1024 .f32)
    (arg8 : Memref sig .tc .vmem S1024x128 .f32)
    (arg9 : Memref sig .tc .vmem S1024x128 .f32)
    (arg10 : Memref sig .tc .vmem S512x1024 .f32) :
    Prog (TpuEff nD τ sig (Elt F) Λ₀ .tc) Unit := do
  let ⟨_, v⟩ : Σ' (_ : BitVec 32), FVec F S128x128 .f32 ← (do
    if _h : isFirst i = 1#1 then do
      let _ : Vec F S512x1024 .f32 ← Prog.lift (.load arg10 (Rect.unit (s := S512x1024) ![0, 0] S512x1024.size inb_S512x1024_S512x1024_0_0).toLoadRect (View.loadsAt_vmem h_S512x1024))
      Prog.lift (.store arg10 (Rect.unit (s := S512x1024) ![0, 0] S512x1024.size inb_S512x1024_S512x1024_0_0) (k0_pay1648 (F := F)) Finset.univ (View.stores_vmem_bits_univ h_S512x1024 rfl) (.inl rfl))
      pure ⟨⟩
    else do
      pure ⟨⟩
    if _h : isFirst i = 1#1 then do
      let x : Vec F S1024x4096 .bf16 ← Prog.lift (.load arg1 (Rect.unit (s := S1024x4096) ![0, 0] S1024x4096.size inb_S1024x4096_S1024x4096_0_0).toLoadRect (View.loadsAt_vmem h_S1024x4096))
      let _ : Vec F S8x1024 .f32 ← Prog.lift (.load arg7 (Rect.unit (s := S8x1024) ![0, 0] S8x1024.size inb_S8x1024_S8x1024_0_0).toLoadRect (View.loadsAt_vmem h_S8x1024))
      Prog.lift (.store arg7 (Rect.unit (s := S8x1024) ![0, 0] S8x1024.size inb_S8x1024_S8x1024_0_0) (k0_pay1649 x) Finset.univ (View.stores_vmem_bits_univ h_S8x1024 rfl) (.inl rfl))
      pure ⟨⟩
    else do
      pure ⟨⟩
    sideRow arg3 arg4 arg8 arg9 0
    let z : Vec F S1x128 .i32 ← Prog.lift (.load arg4 (Rect.unit (s := S8x128) ![1, 0] S1x128.size (side_in 1)).toLoadRect (View.loadsAt_vmem h_S1x128))
    let _ : Vec F S128x128 .f32 ← Prog.lift (.load arg8 (Rect.unit (s := S1024x128) ![128, 0] S128x128.size (side_out 1)).toLoadRect (View.loadsAt_vmem h_S128x128))
    Prog.lift (.store arg8 (Rect.unit (s := S1024x128) ![128, 0] S128x128.size (side_out 1)) (k0_pay1650 z) Finset.univ (View.stores_vmem_bits_univ h_S128x128 rfl) (.inl rfl))
    let s : Vec F S1x128 .f32 ← Prog.lift (.load arg3 (Rect.unit (s := S8x128) ![1, 0] S1x128.size (side_in 1)).toLoadRect (View.loadsAt_vmem h_S1x128))
    pure ⟨BitVec.ofNat 32 (i 0).val, k0_pay1653 s⟩)
  let _ : Vec F S128x128 .f32 ← Prog.lift (.load arg9 (Rect.unit (s := S1024x128) ![128, 0] S128x128.size (side_out 1)).toLoadRect (View.loadsAt_vmem h_S128x128))
  Prog.lift (.store arg9 (Rect.unit (s := S1024x128) ![128, 0] S128x128.size (side_out 1)) (k0_pay1654 v) Finset.univ (View.stores_vmem_bits_univ h_S128x128 rfl) (.inl rfl))
  sideRows arg3 arg4 arg8 arg9 [2, 3, 4, 5, 6, 7]
  products arg1 arg2 arg6
  Scf.Loop.for k0_t1_loop k0_t1_ok ⟨⟩ fun t _ => group arg6 arg7 arg8 arg9 arg10 t
  if h : k0_cond3 i = 1#1 then do
    Scf.Loop.for k0_t3_loop (k0_t3_ok i h) ⟨⟩ fun t _ => finish (F := F) arg5 arg10 i h t
    pure ⟨⟩
  else do
    pure ⟨⟩
  pure ⟨⟩

/-- The printed kernel function is `bodyPrinted`. -/
theorem printed_eq (i : grid0.Coords) (arg1 : Memref sig .tc .vmem S1024x4096 .bf16) (harg1 : arg1.IsWhole) (arg2 : Memref sig .tc .vmem S1024x4096 .i8) (harg2 : arg2.IsWhole) (arg3 : Memref sig .tc .vmem S8x128 .f32) (harg3 : arg3.IsWhole) (arg4 : Memref sig .tc .vmem S8x128 .i32) (harg4 : arg4.IsWhole) (arg5 : Memref sig .tc .vmem S1024x64 .f32) (harg5 : arg5.IsWhole) (arg6 : Memref sig .tc .vmem S1024x1024 .f32) (harg6 : arg6.IsWhole) (arg7 : Memref sig .tc .vmem S8x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S512x1024 .f32) (harg10 : arg10.IsWhole) :
    cc0_mips_full (F := F) i arg1 harg1 arg2 harg2 arg3 harg3 arg4 harg4 arg5 harg5 arg6 harg6 arg7 harg7 arg8 harg8 arg9 harg9 arg10 harg10 = bodyPrinted i arg1 arg2 arg3 arg4 arg5 arg6 arg7 arg8 arg9 arg10 := by
  chain_rfl

/-- The printed kernel function is `body`. -/
theorem body_eq (i : grid0.Coords) (arg1 : Memref sig .tc .vmem S1024x4096 .bf16) (harg1 : arg1.IsWhole) (arg2 : Memref sig .tc .vmem S1024x4096 .i8) (harg2 : arg2.IsWhole) (arg3 : Memref sig .tc .vmem S8x128 .f32) (harg3 : arg3.IsWhole) (arg4 : Memref sig .tc .vmem S8x128 .i32) (harg4 : arg4.IsWhole) (arg5 : Memref sig .tc .vmem S1024x64 .f32) (harg5 : arg5.IsWhole) (arg6 : Memref sig .tc .vmem S1024x1024 .f32) (harg6 : arg6.IsWhole) (arg7 : Memref sig .tc .vmem S8x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S512x1024 .f32) (harg10 : arg10.IsWhole) :
    cc0_mips_full (F := F) i arg1 harg1 arg2 harg2 arg3 harg3 arg4 harg4 arg5 harg5 arg6 harg6 arg7 harg7 arg8 harg8 arg9 harg9 arg10 harg10 = body i arg1 arg2 arg3 arg4 arg5 arg6 arg7 arg8 arg9 arg10 := by
  rw [printed_eq]
  unfold bodyPrinted body clear sums result
  rw [sideRows_cons, sideRows_cons]
  unfold sideRow
  by_cases h : isFirst i = 1#1 <;> by_cases h3 : k0_cond3 i = 1#1 <;> simp [h, h3] <;> rfl

end Cert.KernelIdeal.Gen
-- ==== Proof.Triple.lean ====
/-
  Straight-line reasoning about a kernel body: `Runs P p v P'` says that from the resources `P` the program `p` yields `v` and
  leaves `P'`. Rules for a load, a store, a sequence and a counted loop.
-/
module

public import proofs.«01_k».proof.Proof.Body
public import Idealize.ShloMosaic.Lib.Tactic
public import Idealize.ShloMosaic.Lib.Memref

@[expose] public section

noncomputable section

namespace Cert.TopK

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Ix : Type} [DecidableEq Ix]
variable {Name : Type} [DecidableEq Name] {U : Type} [URA U] {Lvl : Type} [Preorder Lvl] {Λ : Labels}
variable {defs : Defs nD τ sig Val Λ} {𝒱 : Variants} {c : Dev nD} {E : Set Name}
variable {α β σ : Type}

local notation "𝕄" => MT nD τ sig Ix Val Name U Lvl

/-- From the resources `P` the program yields `v` and leaves the resources `P'`, whatever comes after it. -/
structure Runs (defs : Defs nD τ sig Val Λ) (𝒱 : Variants) (c : Dev nD) (E : Set Name) (P : sProp 𝕄)
    (p : Prog (TpuEff nD τ sig Val Λ .tc) α) (v : α) (P' : sProp 𝕄) : Prop where
  go : ∀ (γ : Type) (k : α → Prog (TpuEff nD τ sig Val Λ .tc) γ) (Q : γ → sProp 𝕄),
    BIBase.Entails P' (wp frame (wpE (Lvl := Lvl) (Ix := Ix) (Name := Name) (U := U) defs 𝒱 (c : Thread nD τ) none) E (k v) Q) →
      BIBase.Entails P (wp frame (wpE (Lvl := Lvl) (Ix := Ix) (Name := Name) (U := U) defs 𝒱 (c : Thread nD τ) none) E (p >>= k) Q)

namespace Runs

local notation "𝓡" => Runs (Ix := Ix) (Name := Name) (U := U) (Lvl := Lvl) defs 𝒱 c E

variable {P P' P'' R : sProp (MT nD τ sig Ix Val Name U Lvl)}

protected theorem pure (v : α) : 𝓡 P (Pure.pure v) v P := ⟨fun γ k Q h => by
  rw [pure_bind]; exact h⟩

protected theorem bind {p : Prog (TpuEff nD τ sig Val Λ .tc) α} {q : α → Prog (TpuEff nD τ sig Val Λ .tc) β} {v : α} {w : β}
    (hp : 𝓡 P p v P') (hq : 𝓡 P' (q v) w P'') : 𝓡 P (p >>= q) w P'' :=
  ⟨fun γ k Q h => by rw [bind_assoc]; exact hp.go γ _ Q (hq.go γ k Q h)⟩

/-- The program run to its end. -/
protected theorem wp {p : Prog (TpuEff nD τ sig Val Λ .tc) α} {v : α} (hp : 𝓡 P p v P') :
    BIBase.Entails P (wp frame (wpE (Lvl := Lvl) (Ix := Ix) (Name := Name) (U := U) defs 𝒱 (c : Thread nD τ) none) E p (fun _ => P')) := by
  have := hp.go α Pure.pure (fun _ => P') (by rw [wp_pure]; exact fupd_intro)
  rwa [bind_pure] at this

/-- Loading a rectangle of a memref the resources hold. -/
theorem load {cs : CoreSpace} {s : Shape} {e : EltTy} {m : Memref sig .tc cs s e} {r : Rect s} {hl : m.view.LoadsAt r.toLoadRect}
    {X : s.Idx → Val e} (h : P ⊢ iprop(owns (c : Thread nD τ) m fullShare X ∗ R)) (h' : iprop(owns (c : Thread nD τ) m fullShare X ∗ R) ⊢ P) :
    𝓡 P (Prog.lift (.load m r.toLoadRect hl)) (fun j => X (r.emb j)) P := by
  refine ⟨fun γ k Q hk => h.trans ?_⟩
  simp only [Prog.lift, Prog.bind_op, Prog.bind_ret]
  iintro ⟨Ho, HR⟩
  ihave Ho' := (show owns (c : Thread nD τ) m fullShare X ⊢ iprop(∃ f, ⌜m.view.read Val f = X⌝ ∗ m.view.loc (c : Thread nD τ) ↦[m.view.set]{fullShare} f) from .rfl) $$ Ho
  icases Ho' with ⟨%f, %hf, Hp⟩
  iapply (wp_load_rect 𝒱 (c : Thread nD τ) none E (m := m) (r := r) (hl := hl) (f := f) (S := m.view.set) (m.view.set_slice_subset r)) $$ Hp
  iintro Hp
  have hv : ((m.access r).read Val f : r.shape.Idx → Val e) = fun j => X (r.emb j) := by
    subst hf; rfl
  rw [hv]
  iapply (h'.trans hk)
  isplitl [Hp]
  · unfold owns
    iexists f
    isplitr; · ipureintro; exact hf
    iexact Hp
  · iexact HR

/-- Storing a rectangle of a memref the resources hold. -/
theorem store {cs : CoreSpace} {s : Shape} {e : EltTy} {m : Memref sig .tc cs s e} {r : Rect s} {w : r.shape.Idx → Val e}
    {hx : (m.access r).Stores Finset.univ} {hm : Finset.univ = Finset.univ ∨ ∀ a, r.stride a = 1}
    {X : s.Idx → Val e} (h : P ⊢ iprop(owns (c : Thread nD τ) m fullShare X ∗ R))
    (h' : iprop(owns (c : Thread nD τ) m fullShare (r.overlay X w) ∗ R) ⊢ P') :
    𝓡 P (Prog.lift (.store m r w Finset.univ hx hm)) ⟨⟩ P' := by
  refine ⟨fun γ k Q hk => h.trans ?_⟩
  simp only [Prog.lift, Prog.bind_op, Prog.bind_ret]
  iintro ⟨Ho, HR⟩
  ihave Ho' := (show owns (c : Thread nD τ) m fullShare X ⊢ iprop(∃ f, ⌜m.view.read Val f = X⌝ ∗ m.view.loc (c : Thread nD τ) ↦[m.view.set]{fullShare} f) from .rfl) $$ Ho
  icases Ho' with ⟨%f, %hf, Hp⟩
  iapply (wp_store 𝒱 (c : Thread nD τ) none E (m := m) (r := r) (w := w) (hx := hx) (hm := hm) (Mk := Finset.univ) (f := f) (S := m.view.set) (m.view.set_slice_subset r)) $$ Hp
  iintro Hp
  iapply (h'.trans hk)
  isplitl [Hp]
  · unfold owns
    iexists _
    isplitr
    swap; · iexact Hp
    ipureintro
    subst hf
    funext j
    by_cases hj : j ∈ r.set
    · obtain ⟨i, rfl⟩ := r.exists_idx_of_mem hj
      rw [show r.idx i = r.emb i from rfl, Rect.overlay_emb]
      exact View.read_slice_write_emb _ _ _ (Finset.mem_univ _)
    · rw [Rect.overlay_of_not_mem _ _ _ hj]
      exact View.read_slice_write_of_not_mem _ _ _ _ (by rwa [Rect.map_emb_univ])
  · iexact HR

/-- A counted loop that carries nothing, its trips' resources an indexed family; `ok` is kept by every trip. -/
theorem forOk {w : Nat} {l : Scf.Loop w} {hok : l.OK} {body : Fin l.trips → PUnit → Prog (TpuEff nD τ sig Val Λ .tc) PUnit}
    {S : Type} (ok : S → Prop) (I : S → sProp 𝕄) (f : S → Fin l.trips → S) (hf : ∀ s k, ok s → ok (f s k)) (s : S) (hs : ok s)
    (h : ∀ (k : Fin l.trips) (s : S), ok s → 𝓡 (I s) (body k ⟨⟩) ⟨⟩ (I (f s k))) :
    𝓡 (I s) (Scf.Loop.for l hok ⟨⟩ body) ⟨⟩ (I ((List.finRange l.trips).foldl f s)) := by
  rw [show Scf.Loop.for l hok ⟨⟩ body = Scf.forFrom body (List.finRange l.trips) ⟨⟩ from Scf.for_eq ..]
  generalize List.finRange l.trips = ks
  induction ks generalizing s with
  | nil => exact Runs.pure _
  | cons k ks ih =>
    rw [Scf.forFrom_cons, List.foldl_cons]
    exact (h k s hs).bind (ih _ (hf s k hs))

/-- A counted loop that carries nothing, its trips' resources an indexed family. -/
theorem for_ {w : Nat} {l : Scf.Loop w} {hok : l.OK} {body : Fin l.trips → PUnit → Prog (TpuEff nD τ sig Val Λ .tc) PUnit}
    {S : Type} (I : S → sProp 𝕄) (f : S → Fin l.trips → S) (s : S)
    (h : ∀ (k : Fin l.trips) (s : S), 𝓡 (I s) (body k ⟨⟩) ⟨⟩ (I (f s k))) :
    𝓡 (I s) (Scf.Loop.for l hok ⟨⟩ body) ⟨⟩ (I ((List.finRange l.trips).foldl f s)) :=
  forOk (fun _ => True) I f (fun _ _ _ => trivial) s trivial fun k s _ => h k s

end Runs

end Cert.TopK
-- ==== Proof.Run.lean ====
/-
  What the kernel's body does to the ten memrefs it is called on: `step`, a pure function of their contents, and `runs_body`,
  which proves it of the body.
-/
module

public import proofs.«01_k».proof.Proof.Triple

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.TopK

variable {F : FTy → Type} [FloatOps F]

/-! ## Separating conjunctions are reordered by `ac_rfl` -/

instance sepCommutative {M : Type} [RA M] : _root_.Std.Commutative (α := sProp M) BIBase.sep :=
  ⟨fun P Q => _root_.Std.Commutative.comm (op := fun P Q : sProp M => BI.sep P Q) P Q⟩

instance sepAssociative {M : Type} [RA M] : _root_.Std.Associative (α := sProp M) BIBase.sep :=
  ⟨fun P Q R => _root_.Std.Associative.assoc (op := fun P Q : sProp M => BI.sep P Q) P Q R⟩

/-! ## The contents, as pure functions -/

/-- The rectangle of a slot. -/
abbrev slotRect (o : SlotAt) : Rect S512x1024 := Rect.unit (s := S512x1024) o.1 S8x128.size o.2

/-- The tile a slot holds. -/
def slotRead (st : FVec F S512x1024 .f32) (o : SlotAt) : FVec F S8x128 .f32 := fun j => st ((slotRect o).emb j)

/-- The state after a tile is inserted in the slots of a list. -/
def inserted : List SlotAt → FVec F S8x128 .f32 → FVec F S512x1024 .f32 → FVec F S512x1024 .f32
  | [], _, st => st
  | o :: os, v, st =>
    inserted os (minimumf (slotRead st o) v)
      ((slotRect o).overlay st (shapeCast S8x128 (maximumf (slotRead st o) v) shapeCasts_S8x128_S8x128))

/-- The contents of the ten memrefs. -/
structure Contents (F : FTy → Type) where
  x : Vec F S1024x4096 .bf16
  codes : Vec F S1024x4096 .i8
  scale : Vec F S8x128 .f32
  zero : Vec F S8x128 .i32
  out : Vec F S1024x64 .f32
  s : Vec F S1024x1024 .f32
  xs : Vec F S8x1024 .f32
  zb : Vec F S1024x128 .f32
  sb : Vec F S1024x128 .f32
  state : Vec F S512x1024 .f32

namespace Contents

/-- The scores of rows `8u … 8u+7` of the tile for the queries of column group `t`. -/
def scores (C : Contents F) (t : Fin k0_t1_loop.trips) (u : Fin k0_t2_loop.trips) : FVec F S8x128 .f32 :=
  scoreTile (fun j => C.xs ((Rect.unit (s := S8x1024) (k0_off1 t) S8x128.size (k0_off1_inb t)).emb j))
    (fun j => C.s ((Rect.unit (s := S1024x1024) (k0_off2 t u) S8x128.size (k0_off2_inb t u)).emb j))
    (fun j => C.zb ((Rect.unit (s := S1024x128) (k0_off3 u) S8x128.size (k0_off3_inb u)).emb j))
    (fun j => C.sb ((Rect.unit (s := S1024x128) (k0_off3 u) S8x128.size (k0_off3_inb u)).emb j))

def insert1 (t : Fin k0_t1_loop.trips) (C : Contents F) (u : Fin k0_t2_loop.trips) : Contents F :=
  { C with state := inserted (slots t) (C.scores t u) C.state }

def insertGroup (C : Contents F) (t : Fin k0_t1_loop.trips) : Contents F :=
  (List.finRange k0_t2_loop.trips).foldl (insert1 t) C

def insertTile (C : Contents F) : Contents F := (List.finRange k0_t1_loop.trips).foldl insertGroup C

def side (C : Contents F) (j : Fin 8) : Contents F :=
  { C with
    zb := (Rect.unit (s := S1024x128) ![128 * j.val, 0] S128x128.size (side_out j)).overlay C.zb
      (k0_pay1650 fun l => C.zero ((Rect.unit (s := S8x128) ![j.val, 0] S1x128.size (side_in j)).emb l))
    sb := (Rect.unit (s := S1024x128) ![128 * j.val, 0] S128x128.size (side_out j)).overlay C.sb
      (k0_pay1651 fun l => C.scale ((Rect.unit (s := S8x128) ![j.val, 0] S1x128.size (side_in j)).emb l)) }

def sides (C : Contents F) : Contents F := ([0, 1, 2, 3, 4, 5, 6, 7] : List (Fin 8)).foldl side C

def cleared (i : grid0.Coords) (C : Contents F) : Contents F :=
  if isFirst i = 1#1 then
    { C with
      state := (Rect.unit (s := S512x1024) ![0, 0] S512x1024.size inb_S512x1024_S512x1024_0_0).overlay C.state k0_pay1648 }
  else C

def summed (i : grid0.Coords) (C : Contents F) : Contents F :=
  if isFirst i = 1#1 then
    { C with
      xs := (Rect.unit (s := S8x1024) ![0, 0] S8x1024.size inb_S8x1024_S8x1024_0_0).overlay C.xs
          (k0_pay1649 fun l => C.x ((Rect.unit (s := S1024x4096) ![0, 0] S1024x4096.size inb_S1024x4096_S1024x4096_0_0).emb l)) }
  else C

def multiplied (C : Contents F) : Contents F :=
  { C with
      s := (Rect.unit (s := S1024x1024) ![0, 0] S1024x1024.size inb_S1024x1024_S1024x1024_0_0).overlay C.s
        (k0_pay1 (k0_pay1668
        (fun l => C.codes ((Rect.unit (s := S1024x4096) ![0, 0] S1024x4096.size inb_S1024x4096_S1024x4096_0_0).emb l))
        (fun l => C.x ((Rect.unit (s := S1024x4096) ![0, 0] S1024x4096.size inb_S1024x4096_S1024x4096_0_0).emb l)))) }

def finish1 (i : grid0.Coords) (h : k0_cond3 i = 1#1) (C : Contents F) (t : Fin k0_t3_loop.trips) : Contents F :=
  { C with
      out := (Rect.unit (s := S1024x64) (k0_off132 t) S128x64.size (k0_off132_inb i t h)).overlay C.out
        (resultOf (mergeSublanes ((lastSlots i h t).map (slotRead C.state)))) }

def finished (i : grid0.Coords) (C : Contents F) : Contents F :=
  if h : k0_cond3 i = 1#1 then (List.finRange k0_t3_loop.trips).foldl (finish1 i h) C else C

/-- The contents after the body. -/
def step (i : grid0.Coords) (C : Contents F) : Contents F :=
  finished i (insertTile (multiplied (sides (summed i (cleared i C)))))

end Contents

/-! ## The body -/

variable {Ix : Type} [DecidableEq Ix] {Name : Type} [DecidableEq Name] {U : Type} [URA U] {Lvl : Type} [Preorder Lvl]
variable {𝒱 : Variants} {c : Dev nD} {E : Set Name} {defs : Defs nD τ sig (Elt F) Λ₀}
variable {arg1 : Memref sig .tc .vmem S1024x4096 .bf16} {arg2 : Memref sig .tc .vmem S1024x4096 .i8}
  {arg3 : Memref sig .tc .vmem S8x128 .f32} {arg4 : Memref sig .tc .vmem S8x128 .i32}
  {arg5 : Memref sig .tc .vmem S1024x64 .f32} {arg6 : Memref sig .tc .vmem S1024x1024 .f32}
  {arg7 : Memref sig .tc .vmem S8x1024 .f32} {arg8 arg9 : Memref sig .tc .vmem S1024x128 .f32}
  {arg10 : Memref sig .tc .vmem S512x1024 .f32}

local notation "𝕄U" => MT nD τ sig Ix (Elt F) Name U Lvl

/-- The ten memrefs at given contents. -/
def Holds (c : Dev nD) (arg1 : Memref sig .tc .vmem S1024x4096 .bf16) (arg2 : Memref sig .tc .vmem S1024x4096 .i8)
    (arg3 : Memref sig .tc .vmem S8x128 .f32) (arg4 : Memref sig .tc .vmem S8x128 .i32)
    (arg5 : Memref sig .tc .vmem S1024x64 .f32) (arg6 : Memref sig .tc .vmem S1024x1024 .f32)
    (arg7 : Memref sig .tc .vmem S8x1024 .f32) (arg8 arg9 : Memref sig .tc .vmem S1024x128 .f32)
    (arg10 : Memref sig .tc .vmem S512x1024 .f32) (C : Contents F) : sProp 𝕄U :=
  iprop(owns (c : Thread nD τ) arg1 fullShare C.x ∗ owns (c : Thread nD τ) arg2 fullShare C.codes
    ∗ owns (c : Thread nD τ) arg3 fullShare C.scale ∗ owns (c : Thread nD τ) arg4 fullShare C.zero
    ∗ owns (c : Thread nD τ) arg5 fullShare C.out ∗ owns (c : Thread nD τ) arg6 fullShare C.s
    ∗ owns (c : Thread nD τ) arg7 fullShare C.xs ∗ owns (c : Thread nD τ) arg8 fullShare C.zb
    ∗ owns (c : Thread nD τ) arg9 fullShare C.sb ∗ owns (c : Thread nD τ) arg10 fullShare C.state)

local notation "ℋ" => Holds (F := F) (Ix := Ix) (Name := Name) (U := U) (Lvl := Lvl) c arg1 arg2 arg3 arg4 arg5 arg6 arg7 arg8 arg9 arg10
local notation "𝓡" => Runs (Ix := Ix) (Name := Name) (U := U) (Lvl := Lvl) defs 𝒱 c E

/-- The windows' memrefs and the scratch's apart. -/
theorem holds_split (C : Contents F) : ℋ C =
    iprop((owns (c : Thread nD τ) arg1 fullShare C.x ∗ owns (c : Thread nD τ) arg2 fullShare C.codes
      ∗ owns (c : Thread nD τ) arg3 fullShare C.scale ∗ owns (c : Thread nD τ) arg4 fullShare C.zero
      ∗ owns (c : Thread nD τ) arg5 fullShare C.out) ∗ owns (c : Thread nD τ) arg6 fullShare C.s
      ∗ owns (c : Thread nD τ) arg7 fullShare C.xs ∗ owns (c : Thread nD τ) arg8 fullShare C.zb
      ∗ owns (c : Thread nD τ) arg9 fullShare C.sb ∗ owns (c : Thread nD τ) arg10 fullShare C.state) := by
  unfold Holds; ac_rfl

/-! Each memref in turn, moved to the front: what a load or a store of it needs. -/

/-- The memrefs but `arg1`. -/
def But1 (c : Dev nD) (arg1 : Memref sig .tc .vmem S1024x4096 .bf16) (arg2 : Memref sig .tc .vmem S1024x4096 .i8)
    (arg3 : Memref sig .tc .vmem S8x128 .f32) (arg4 : Memref sig .tc .vmem S8x128 .i32)
    (arg5 : Memref sig .tc .vmem S1024x64 .f32) (arg6 : Memref sig .tc .vmem S1024x1024 .f32)
    (arg7 : Memref sig .tc .vmem S8x1024 .f32) (arg8 arg9 : Memref sig .tc .vmem S1024x128 .f32)
    (arg10 : Memref sig .tc .vmem S512x1024 .f32) (C : Contents F) : sProp 𝕄U :=
  iprop(owns (c : Thread nD τ) arg2 fullShare C.codes
      ∗ owns (c : Thread nD τ) arg3 fullShare C.scale
      ∗ owns (c : Thread nD τ) arg4 fullShare C.zero
      ∗ owns (c : Thread nD τ) arg5 fullShare C.out
      ∗ owns (c : Thread nD τ) arg6 fullShare C.s
      ∗ owns (c : Thread nD τ) arg7 fullShare C.xs
      ∗ owns (c : Thread nD τ) arg8 fullShare C.zb
      ∗ owns (c : Thread nD τ) arg9 fullShare C.sb
      ∗ owns (c : Thread nD τ) arg10 fullShare C.state)

theorem front1 (C : Contents F) :
    ℋ C = iprop(owns (c : Thread nD τ) arg1 fullShare C.x ∗ But1 c arg1 arg2 arg3 arg4 arg5 arg6 arg7 arg8 arg9 arg10 C) := by
  unfold Holds But1; ac_rfl

theorem load1 (C : Contents F) {r : Rect S1024x4096} {hl : arg1.view.LoadsAt r.toLoadRect} :
    𝓡 (ℋ C) (Prog.lift (.load arg1 r.toLoadRect hl)) (fun j => C.x (r.emb j)) (ℋ C) := by
  rw [front1 C]; exact Runs.load .rfl .rfl

/-- The memrefs but `arg2`. -/
def But2 (c : Dev nD) (arg1 : Memref sig .tc .vmem S1024x4096 .bf16) (arg2 : Memref sig .tc .vmem S1024x4096 .i8)
    (arg3 : Memref sig .tc .vmem S8x128 .f32) (arg4 : Memref sig .tc .vmem S8x128 .i32)
    (arg5 : Memref sig .tc .vmem S1024x64 .f32) (arg6 : Memref sig .tc .vmem S1024x1024 .f32)
    (arg7 : Memref sig .tc .vmem S8x1024 .f32) (arg8 arg9 : Memref sig .tc .vmem S1024x128 .f32)
    (arg10 : Memref sig .tc .vmem S512x1024 .f32) (C : Contents F) : sProp 𝕄U :=
  iprop(owns (c : Thread nD τ) arg1 fullShare C.x
      ∗ owns (c : Thread nD τ) arg3 fullShare C.scale
      ∗ owns (c : Thread nD τ) arg4 fullShare C.zero
      ∗ owns (c : Thread nD τ) arg5 fullShare C.out
      ∗ owns (c : Thread nD τ) arg6 fullShare C.s
      ∗ owns (c : Thread nD τ) arg7 fullShare C.xs
      ∗ owns (c : Thread nD τ) arg8 fullShare C.zb
      ∗ owns (c : Thread nD τ) arg9 fullShare C.sb
      ∗ owns (c : Thread nD τ) arg10 fullShare C.state)

theorem front2 (C : Contents F) :
    ℋ C = iprop(owns (c : Thread nD τ) arg2 fullShare C.codes ∗ But2 c arg1 arg2 arg3 arg4 arg5 arg6 arg7 arg8 arg9 arg10 C) := by
  unfold Holds But2; ac_rfl

theorem load2 (C : Contents F) {r : Rect S1024x4096} {hl : arg2.view.LoadsAt r.toLoadRect} :
    𝓡 (ℋ C) (Prog.lift (.load arg2 r.toLoadRect hl)) (fun j => C.codes (r.emb j)) (ℋ C) := by
  rw [front2 C]; exact Runs.load .rfl .rfl

/-- The memrefs but `arg3`. -/
def But3 (c : Dev nD) (arg1 : Memref sig .tc .vmem S1024x4096 .bf16) (arg2 : Memref sig .tc .vmem S1024x4096 .i8)
    (arg3 : Memref sig .tc .vmem S8x128 .f32) (arg4 : Memref sig .tc .vmem S8x128 .i32)
    (arg5 : Memref sig .tc .vmem S1024x64 .f32) (arg6 : Memref sig .tc .vmem S1024x1024 .f32)
    (arg7 : Memref sig .tc .vmem S8x1024 .f32) (arg8 arg9 : Memref sig .tc .vmem S1024x128 .f32)
    (arg10 : Memref sig .tc .vmem S512x1024 .f32) (C : Contents F) : sProp 𝕄U :=
  iprop(owns (c : Thread nD τ) arg1 fullShare C.x
      ∗ owns (c : Thread nD τ) arg2 fullShare C.codes
      ∗ owns (c : Thread nD τ) arg4 fullShare C.zero
      ∗ owns (c : Thread nD τ) arg5 fullShare C.out
      ∗ owns (c : Thread nD τ) arg6 fullShare C.s
      ∗ owns (c : Thread nD τ) arg7 fullShare C.xs
      ∗ owns (c : Thread nD τ) arg8 fullShare C.zb
      ∗ owns (c : Thread nD τ) arg9 fullShare C.sb
      ∗ owns (c : Thread nD τ) arg10 fullShare C.state)

theorem front3 (C : Contents F) :
    ℋ C = iprop(owns (c : Thread nD τ) arg3 fullShare C.scale ∗ But3 c arg1 arg2 arg3 arg4 arg5 arg6 arg7 arg8 arg9 arg10 C) := by
  unfold Holds But3; ac_rfl

theorem load3 (C : Contents F) {r : Rect S8x128} {hl : arg3.view.LoadsAt r.toLoadRect} :
    𝓡 (ℋ C) (Prog.lift (.load arg3 r.toLoadRect hl)) (fun j => C.scale (r.emb j)) (ℋ C) := by
  rw [front3 C]; exact Runs.load .rfl .rfl

/-- The memrefs but `arg4`. -/
def But4 (c : Dev nD) (arg1 : Memref sig .tc .vmem S1024x4096 .bf16) (arg2 : Memref sig .tc .vmem S1024x4096 .i8)
    (arg3 : Memref sig .tc .vmem S8x128 .f32) (arg4 : Memref sig .tc .vmem S8x128 .i32)
    (arg5 : Memref sig .tc .vmem S1024x64 .f32) (arg6 : Memref sig .tc .vmem S1024x1024 .f32)
    (arg7 : Memref sig .tc .vmem S8x1024 .f32) (arg8 arg9 : Memref sig .tc .vmem S1024x128 .f32)
    (arg10 : Memref sig .tc .vmem S512x1024 .f32) (C : Contents F) : sProp 𝕄U :=
  iprop(owns (c : Thread nD τ) arg1 fullShare C.x
      ∗ owns (c : Thread nD τ) arg2 fullShare C.codes
      ∗ owns (c : Thread nD τ) arg3 fullShare C.scale
      ∗ owns (c : Thread nD τ) arg5 fullShare C.out
      ∗ owns (c : Thread nD τ) arg6 fullShare C.s
      ∗ owns (c : Thread nD τ) arg7 fullShare C.xs
      ∗ owns (c : Thread nD τ) arg8 fullShare C.zb
      ∗ owns (c : Thread nD τ) arg9 fullShare C.sb
      ∗ owns (c : Thread nD τ) arg10 fullShare C.state)

theorem front4 (C : Contents F) :
    ℋ C = iprop(owns (c : Thread nD τ) arg4 fullShare C.zero ∗ But4 c arg1 arg2 arg3 arg4 arg5 arg6 arg7 arg8 arg9 arg10 C) := by
  unfold Holds But4; ac_rfl

theorem load4 (C : Contents F) {r : Rect S8x128} {hl : arg4.view.LoadsAt r.toLoadRect} :
    𝓡 (ℋ C) (Prog.lift (.load arg4 r.toLoadRect hl)) (fun j => C.zero (r.emb j)) (ℋ C) := by
  rw [front4 C]; exact Runs.load .rfl .rfl

/-- The memrefs but `arg5`. -/
def But5 (c : Dev nD) (arg1 : Memref sig .tc .vmem S1024x4096 .bf16) (arg2 : Memref sig .tc .vmem S1024x4096 .i8)
    (arg3 : Memref sig .tc .vmem S8x128 .f32) (arg4 : Memref sig .tc .vmem S8x128 .i32)
    (arg5 : Memref sig .tc .vmem S1024x64 .f32) (arg6 : Memref sig .tc .vmem S1024x1024 .f32)
    (arg7 : Memref sig .tc .vmem S8x1024 .f32) (arg8 arg9 : Memref sig .tc .vmem S1024x128 .f32)
    (arg10 : Memref sig .tc .vmem S512x1024 .f32) (C : Contents F) : sProp 𝕄U :=
  iprop(owns (c : Thread nD τ) arg1 fullShare C.x
      ∗ owns (c : Thread nD τ) arg2 fullShare C.codes
      ∗ owns (c : Thread nD τ) arg3 fullShare C.scale
      ∗ owns (c : Thread nD τ) arg4 fullShare C.zero
      ∗ owns (c : Thread nD τ) arg6 fullShare C.s
      ∗ owns (c : Thread nD τ) arg7 fullShare C.xs
      ∗ owns (c : Thread nD τ) arg8 fullShare C.zb
      ∗ owns (c : Thread nD τ) arg9 fullShare C.sb
      ∗ owns (c : Thread nD τ) arg10 fullShare C.state)

theorem front5 (C : Contents F) :
    ℋ C = iprop(owns (c : Thread nD τ) arg5 fullShare C.out ∗ But5 c arg1 arg2 arg3 arg4 arg5 arg6 arg7 arg8 arg9 arg10 C) := by
  unfold Holds But5; ac_rfl

theorem load5 (C : Contents F) {r : Rect S1024x64} {hl : arg5.view.LoadsAt r.toLoadRect} :
    𝓡 (ℋ C) (Prog.lift (.load arg5 r.toLoadRect hl)) (fun j => C.out (r.emb j)) (ℋ C) := by
  rw [front5 C]; exact Runs.load .rfl .rfl

theorem store5 (C : Contents F) {r : Rect S1024x64} {w : r.shape.Idx → Elt F _} {hx : (arg5.access r).Stores Finset.univ}
    {hm : Finset.univ = Finset.univ ∨ ∀ a, r.stride a = 1} :
    𝓡 (ℋ C) (Prog.lift (.store arg5 r w Finset.univ hx hm)) ⟨⟩ (ℋ { C with out := r.overlay C.out w }) := by
  rw [front5 C, front5 { C with out := r.overlay C.out w }]; exact Runs.store .rfl .rfl

/-- The memrefs but `arg6`. -/
def But6 (c : Dev nD) (arg1 : Memref sig .tc .vmem S1024x4096 .bf16) (arg2 : Memref sig .tc .vmem S1024x4096 .i8)
    (arg3 : Memref sig .tc .vmem S8x128 .f32) (arg4 : Memref sig .tc .vmem S8x128 .i32)
    (arg5 : Memref sig .tc .vmem S1024x64 .f32) (arg6 : Memref sig .tc .vmem S1024x1024 .f32)
    (arg7 : Memref sig .tc .vmem S8x1024 .f32) (arg8 arg9 : Memref sig .tc .vmem S1024x128 .f32)
    (arg10 : Memref sig .tc .vmem S512x1024 .f32) (C : Contents F) : sProp 𝕄U :=
  iprop(owns (c : Thread nD τ) arg1 fullShare C.x
      ∗ owns (c : Thread nD τ) arg2 fullShare C.codes
      ∗ owns (c : Thread nD τ) arg3 fullShare C.scale
      ∗ owns (c : Thread nD τ) arg4 fullShare C.zero
      ∗ owns (c : Thread nD τ) arg5 fullShare C.out
      ∗ owns (c : Thread nD τ) arg7 fullShare C.xs
      ∗ owns (c : Thread nD τ) arg8 fullShare C.zb
      ∗ owns (c : Thread nD τ) arg9 fullShare C.sb
      ∗ owns (c : Thread nD τ) arg10 fullShare C.state)

theorem front6 (C : Contents F) :
    ℋ C = iprop(owns (c : Thread nD τ) arg6 fullShare C.s ∗ But6 c arg1 arg2 arg3 arg4 arg5 arg6 arg7 arg8 arg9 arg10 C) := by
  unfold Holds But6; ac_rfl

theorem load6 (C : Contents F) {r : Rect S1024x1024} {hl : arg6.view.LoadsAt r.toLoadRect} :
    𝓡 (ℋ C) (Prog.lift (.load arg6 r.toLoadRect hl)) (fun j => C.s (r.emb j)) (ℋ C) := by
  rw [front6 C]; exact Runs.load .rfl .rfl

theorem store6 (C : Contents F) {r : Rect S1024x1024} {w : r.shape.Idx → Elt F _} {hx : (arg6.access r).Stores Finset.univ}
    {hm : Finset.univ = Finset.univ ∨ ∀ a, r.stride a = 1} :
    𝓡 (ℋ C) (Prog.lift (.store arg6 r w Finset.univ hx hm)) ⟨⟩ (ℋ { C with s := r.overlay C.s w }) := by
  rw [front6 C, front6 { C with s := r.overlay C.s w }]; exact Runs.store .rfl .rfl

/-- The memrefs but `arg7`. -/
def But7 (c : Dev nD) (arg1 : Memref sig .tc .vmem S1024x4096 .bf16) (arg2 : Memref sig .tc .vmem S1024x4096 .i8)
    (arg3 : Memref sig .tc .vmem S8x128 .f32) (arg4 : Memref sig .tc .vmem S8x128 .i32)
    (arg5 : Memref sig .tc .vmem S1024x64 .f32) (arg6 : Memref sig .tc .vmem S1024x1024 .f32)
    (arg7 : Memref sig .tc .vmem S8x1024 .f32) (arg8 arg9 : Memref sig .tc .vmem S1024x128 .f32)
    (arg10 : Memref sig .tc .vmem S512x1024 .f32) (C : Contents F) : sProp 𝕄U :=
  iprop(owns (c : Thread nD τ) arg1 fullShare C.x
      ∗ owns (c : Thread nD τ) arg2 fullShare C.codes
      ∗ owns (c : Thread nD τ) arg3 fullShare C.scale
      ∗ owns (c : Thread nD τ) arg4 fullShare C.zero
      ∗ owns (c : Thread nD τ) arg5 fullShare C.out
      ∗ owns (c : Thread nD τ) arg6 fullShare C.s
      ∗ owns (c : Thread nD τ) arg8 fullShare C.zb
      ∗ owns (c : Thread nD τ) arg9 fullShare C.sb
      ∗ owns (c : Thread nD τ) arg10 fullShare C.state)

theorem front7 (C : Contents F) :
    ℋ C = iprop(owns (c : Thread nD τ) arg7 fullShare C.xs ∗ But7 c arg1 arg2 arg3 arg4 arg5 arg6 arg7 arg8 arg9 arg10 C) := by
  unfold Holds But7; ac_rfl

theorem load7 (C : Contents F) {r : Rect S8x1024} {hl : arg7.view.LoadsAt r.toLoadRect} :
    𝓡 (ℋ C) (Prog.lift (.load arg7 r.toLoadRect hl)) (fun j => C.xs (r.emb j)) (ℋ C) := by
  rw [front7 C]; exact Runs.load .rfl .rfl

theorem store7 (C : Contents F) {r : Rect S8x1024} {w : r.shape.Idx → Elt F _} {hx : (arg7.access r).Stores Finset.univ}
    {hm : Finset.univ = Finset.univ ∨ ∀ a, r.stride a = 1} :
    𝓡 (ℋ C) (Prog.lift (.store arg7 r w Finset.univ hx hm)) ⟨⟩ (ℋ { C with xs := r.overlay C.xs w }) := by
  rw [front7 C, front7 { C with xs := r.overlay C.xs w }]; exact Runs.store .rfl .rfl

/-- The memrefs but `arg8`. -/
def But8 (c : Dev nD) (arg1 : Memref sig .tc .vmem S1024x4096 .bf16) (arg2 : Memref sig .tc .vmem S1024x4096 .i8)
    (arg3 : Memref sig .tc .vmem S8x128 .f32) (arg4 : Memref sig .tc .vmem S8x128 .i32)
    (arg5 : Memref sig .tc .vmem S1024x64 .f32) (arg6 : Memref sig .tc .vmem S1024x1024 .f32)
    (arg7 : Memref sig .tc .vmem S8x1024 .f32) (arg8 arg9 : Memref sig .tc .vmem S1024x128 .f32)
    (arg10 : Memref sig .tc .vmem S512x1024 .f32) (C : Contents F) : sProp 𝕄U :=
  iprop(owns (c : Thread nD τ) arg1 fullShare C.x
      ∗ owns (c : Thread nD τ) arg2 fullShare C.codes
      ∗ owns (c : Thread nD τ) arg3 fullShare C.scale
      ∗ owns (c : Thread nD τ) arg4 fullShare C.zero
      ∗ owns (c : Thread nD τ) arg5 fullShare C.out
      ∗ owns (c : Thread nD τ) arg6 fullShare C.s
      ∗ owns (c : Thread nD τ) arg7 fullShare C.xs
      ∗ owns (c : Thread nD τ) arg9 fullShare C.sb
      ∗ owns (c : Thread nD τ) arg10 fullShare C.state)

theorem front8 (C : Contents F) :
    ℋ C = iprop(owns (c : Thread nD τ) arg8 fullShare C.zb ∗ But8 c arg1 arg2 arg3 arg4 arg5 arg6 arg7 arg8 arg9 arg10 C) := by
  unfold Holds But8; ac_rfl

theorem load8 (C : Contents F) {r : Rect S1024x128} {hl : arg8.view.LoadsAt r.toLoadRect} :
    𝓡 (ℋ C) (Prog.lift (.load arg8 r.toLoadRect hl)) (fun j => C.zb (r.emb j)) (ℋ C) := by
  rw [front8 C]; exact Runs.load .rfl .rfl

theorem store8 (C : Contents F) {r : Rect S1024x128} {w : r.shape.Idx → Elt F _} {hx : (arg8.access r).Stores Finset.univ}
    {hm : Finset.univ = Finset.univ ∨ ∀ a, r.stride a = 1} :
    𝓡 (ℋ C) (Prog.lift (.store arg8 r w Finset.univ hx hm)) ⟨⟩ (ℋ { C with zb := r.overlay C.zb w }) := by
  rw [front8 C, front8 { C with zb := r.overlay C.zb w }]; exact Runs.store .rfl .rfl

/-- The memrefs but `arg9`. -/
def But9 (c : Dev nD) (arg1 : Memref sig .tc .vmem S1024x4096 .bf16) (arg2 : Memref sig .tc .vmem S1024x4096 .i8)
    (arg3 : Memref sig .tc .vmem S8x128 .f32) (arg4 : Memref sig .tc .vmem S8x128 .i32)
    (arg5 : Memref sig .tc .vmem S1024x64 .f32) (arg6 : Memref sig .tc .vmem S1024x1024 .f32)
    (arg7 : Memref sig .tc .vmem S8x1024 .f32) (arg8 arg9 : Memref sig .tc .vmem S1024x128 .f32)
    (arg10 : Memref sig .tc .vmem S512x1024 .f32) (C : Contents F) : sProp 𝕄U :=
  iprop(owns (c : Thread nD τ) arg1 fullShare C.x
      ∗ owns (c : Thread nD τ) arg2 fullShare C.codes
      ∗ owns (c : Thread nD τ) arg3 fullShare C.scale
      ∗ owns (c : Thread nD τ) arg4 fullShare C.zero
      ∗ owns (c : Thread nD τ) arg5 fullShare C.out
      ∗ owns (c : Thread nD τ) arg6 fullShare C.s
      ∗ owns (c : Thread nD τ) arg7 fullShare C.xs
      ∗ owns (c : Thread nD τ) arg8 fullShare C.zb
      ∗ owns (c : Thread nD τ) arg10 fullShare C.state)

theorem front9 (C : Contents F) :
    ℋ C = iprop(owns (c : Thread nD τ) arg9 fullShare C.sb ∗ But9 c arg1 arg2 arg3 arg4 arg5 arg6 arg7 arg8 arg9 arg10 C) := by
  unfold Holds But9; ac_rfl

theorem load9 (C : Contents F) {r : Rect S1024x128} {hl : arg9.view.LoadsAt r.toLoadRect} :
    𝓡 (ℋ C) (Prog.lift (.load arg9 r.toLoadRect hl)) (fun j => C.sb (r.emb j)) (ℋ C) := by
  rw [front9 C]; exact Runs.load .rfl .rfl

theorem store9 (C : Contents F) {r : Rect S1024x128} {w : r.shape.Idx → Elt F _} {hx : (arg9.access r).Stores Finset.univ}
    {hm : Finset.univ = Finset.univ ∨ ∀ a, r.stride a = 1} :
    𝓡 (ℋ C) (Prog.lift (.store arg9 r w Finset.univ hx hm)) ⟨⟩ (ℋ { C with sb := r.overlay C.sb w }) := by
  rw [front9 C, front9 { C with sb := r.overlay C.sb w }]; exact Runs.store .rfl .rfl

/-- The memrefs but `arg10`. -/
def But10 (c : Dev nD) (arg1 : Memref sig .tc .vmem S1024x4096 .bf16) (arg2 : Memref sig .tc .vmem S1024x4096 .i8)
    (arg3 : Memref sig .tc .vmem S8x128 .f32) (arg4 : Memref sig .tc .vmem S8x128 .i32)
    (arg5 : Memref sig .tc .vmem S1024x64 .f32) (arg6 : Memref sig .tc .vmem S1024x1024 .f32)
    (arg7 : Memref sig .tc .vmem S8x1024 .f32) (arg8 arg9 : Memref sig .tc .vmem S1024x128 .f32)
    (arg10 : Memref sig .tc .vmem S512x1024 .f32) (C : Contents F) : sProp 𝕄U :=
  iprop(owns (c : Thread nD τ) arg1 fullShare C.x
      ∗ owns (c : Thread nD τ) arg2 fullShare C.codes
      ∗ owns (c : Thread nD τ) arg3 fullShare C.scale
      ∗ owns (c : Thread nD τ) arg4 fullShare C.zero
      ∗ owns (c : Thread nD τ) arg5 fullShare C.out
      ∗ owns (c : Thread nD τ) arg6 fullShare C.s
      ∗ owns (c : Thread nD τ) arg7 fullShare C.xs
      ∗ owns (c : Thread nD τ) arg8 fullShare C.zb
      ∗ owns (c : Thread nD τ) arg9 fullShare C.sb)

theorem front10 (C : Contents F) :
    ℋ C = iprop(owns (c : Thread nD τ) arg10 fullShare C.state ∗ But10 c arg1 arg2 arg3 arg4 arg5 arg6 arg7 arg8 arg9 arg10 C) := by
  unfold Holds But10; ac_rfl

theorem load10 (C : Contents F) {r : Rect S512x1024} {hl : arg10.view.LoadsAt r.toLoadRect} :
    𝓡 (ℋ C) (Prog.lift (.load arg10 r.toLoadRect hl)) (fun j => C.state (r.emb j)) (ℋ C) := by
  rw [front10 C]; exact Runs.load .rfl .rfl

theorem store10 (C : Contents F) {r : Rect S512x1024} {w : r.shape.Idx → Elt F _} {hx : (arg10.access r).Stores Finset.univ}
    {hm : Finset.univ = Finset.univ ∨ ∀ a, r.stride a = 1} :
    𝓡 (ℋ C) (Prog.lift (.store arg10 r w Finset.univ hx hm)) ⟨⟩ (ℋ { C with state := r.overlay C.state w }) := by
  rw [front10 C, front10 { C with state := r.overlay C.state w }]; exact Runs.store .rfl .rfl

/-! ## The body, piece by piece -/

theorem runs_insertAll (os : List SlotAt) : ∀ (v : FVec F S8x128 .f32) (C : Contents F),
    𝓡 (ℋ C) (insertAll arg10 os v) ⟨⟩ (ℋ { C with state := inserted os v C.state }) := by
  induction os with
  | nil => exact fun v C => Runs.pure _
  | cons o os ih =>
    intro v C
    refine (load10 C).bind ((load10 C).bind ((store10 C).bind ?_))
    exact ih (minimumf (slotRead C.state o) v)
      { C with state := (slotRect o).overlay C.state (shapeCast S8x128 (maximumf (slotRead C.state o) v) shapeCasts_S8x128_S8x128) }

theorem runs_trip (C : Contents F) (t : Fin k0_t1_loop.trips) (u : Fin k0_t2_loop.trips) :
    𝓡 (ℋ C) (trip arg6 arg8 arg9 arg10 t
      (fun j => C.xs ((Rect.unit (s := S8x1024) (k0_off1 t) S8x128.size (k0_off1_inb t)).emb j)) u) ⟨⟩ (ℋ (C.insert1 t u)) :=
  (load6 C).bind ((load8 C).bind ((load9 C).bind (runs_insertAll (slots t) (C.scores t u) C)))

theorem runs_group (C : Contents F) (t : Fin k0_t1_loop.trips) :
    𝓡 (ℋ C) (group arg6 arg7 arg8 arg9 arg10 t) ⟨⟩ (ℋ (C.insertGroup t)) := by
  refine (load7 C).bind (Runs.bind (v := ⟨⟩) (P' := ℋ (C.insertGroup t)) ?_ (Runs.pure _))
  refine Runs.forOk (fun C' => C'.xs = C.xs) (fun C => ℋ C) (Contents.insert1 t) (fun s _ (h : s.xs = C.xs) => h) C rfl fun u C' h => ?_
  rw [← h]
  exact runs_trip C' t u

theorem runs_loadAll (C : Contents F) (os : List SlotAt) :
    𝓡 (ℋ C) (loadAll arg10 os) (os.map (slotRead C.state)) (ℋ C) := by
  induction os with
  | nil => exact Runs.pure _
  | cons o os ih => exact (load10 C).bind (ih.bind (Runs.pure _))

theorem runs_finish (i : grid0.Coords) (h : k0_cond3 i = 1#1) (C : Contents F) (t : Fin k0_t3_loop.trips) :
    𝓡 (ℋ C) (finish arg5 arg10 i h t) ⟨⟩ (ℋ (C.finish1 i h t)) :=
  (runs_loadAll C (lastSlots i h t)).bind ((load5 C).bind (store5 C))

theorem runs_sideRow (C : Contents F) (j : Fin 8) : 𝓡 (ℋ C) (sideRow arg3 arg4 arg8 arg9 j) ⟨⟩ (ℋ (C.side j)) :=
  (load4 C).bind ((load8 C).bind ((store8 C).bind ((load3 _).bind ((load9 _).bind (store9 _)))))

theorem runs_sideRows (js : List (Fin 8)) : ∀ C : Contents F,
    𝓡 (ℋ C) (sideRows arg3 arg4 arg8 arg9 js) ⟨⟩ (ℋ (js.foldl Contents.side C)) := by
  induction js with
  | nil => exact fun C => Runs.pure _
  | cons j js ih => exact fun C => (runs_sideRow C j).bind (ih _)

theorem runs_clear (i : grid0.Coords) (C : Contents F) : 𝓡 (ℋ C) (clear i arg10) ⟨⟩ (ℋ (C.cleared i)) := by
  unfold clear Contents.cleared
  split
  · exact (load10 C).bind (store10 C)
  · exact Runs.pure _

theorem runs_sums (i : grid0.Coords) (C : Contents F) : 𝓡 (ℋ C) (sums i arg1 arg7) ⟨⟩ (ℋ (C.summed i)) := by
  unfold sums Contents.summed
  split
  · exact (load1 C).bind ((load7 C).bind (store7 C))
  · exact Runs.pure _

theorem runs_products (C : Contents F) : 𝓡 (ℋ C) (products arg1 arg2 arg6) ⟨⟩ (ℋ C.multiplied) :=
  (load2 C).bind ((load1 C).bind ((load6 C).bind (store6 C)))

theorem runs_result (i : grid0.Coords) (C : Contents F) : 𝓡 (ℋ C) (result i arg5 arg10) ⟨⟩ (ℋ (C.finished i)) := by
  unfold result Contents.finished
  split
  · exact (Runs.for_ (fun C => ℋ C) (Contents.finish1 i ‹_›) C fun t C => runs_finish i _ C t).bind (Runs.pure _)
  · exact Runs.pure _

/-- The body takes the ten memrefs' contents `C` to `C.step i`. -/
theorem runs_body (i : grid0.Coords) (C : Contents F) :
    𝓡 (ℋ C) (body i arg1 arg2 arg3 arg4 arg5 arg6 arg7 arg8 arg9 arg10) ⟨⟩ (ℋ (C.step i)) :=
  (runs_clear i C).bind ((runs_sums i _).bind ((runs_sideRows _ _).bind ((runs_products _).bind
    ((Runs.for_ (fun C => ℋ C) Contents.insertGroup _ fun t C => runs_group C t).bind
      ((runs_result i _).bind (Runs.pure _))))))

end Cert.KernelIdeal.Gen
-- ==== Proof.Geometry.lean ====
/-
  Rectangles of consecutive coordinates: which elements they hold, and what an array holds after one is overwritten.
-/
module

public import Idealize.ShloMosaic.Lib.Memref

@[expose] public section

noncomputable section

namespace Cert.TopK

open Idealize.ShloMosaic

variable {s : Shape} {α : Type}

/-- An element lies in a rectangle of consecutive coordinates exactly if each coordinate lies in its range. -/
theorem mem_unit {off size : Fin s.rank → Nat} {inb} {j : s.Idx} :
    j ∈ (Rect.unit (s := s) off size inb).set ↔ ∀ a, off a ≤ (j a).val ∧ (j a).val < off a + size a := by
  refine (LoadRect.mem_set _).trans ?_
  refine forall_congr' fun a => ⟨?_, fun h => ⟨(j a).val - off a, ?_, ?_⟩⟩
  · rintro ⟨k, hk, h⟩
    have h' : (j a).val = off a + 1 * k := h
    have hk' : k < size a := hk
    omega
  · show _ < size a
    omega
  · show _ = off a + 1 * _
    omega

/-- After a rectangle is overwritten an element of it holds what was written there, -/
theorem overlay_mem {off size : Fin s.rank → Nat} {inb} (X : s.Idx → α) (w : (Rect.unit (s := s) off size inb).shape.Idx → α)
    (j : s.Idx) (l : (Rect.unit (s := s) off size inb).shape.Idx) (h : ∀ a, (j a).val = off a + (l a).val) :
    (Rect.unit (s := s) off size inb).overlay X w j = w l := by
  have : j = (Rect.unit (s := s) off size inb).emb l := by
    funext a
    apply Fin.ext
    rw [h a]
    show _ = off a + 1 * (l a).val
    omega
  rw [this, Rect.overlay_emb]

/-- and an element with a coordinate outside its range what it held. -/
theorem overlay_not_mem {off size : Fin s.rank → Nat} {inb} (X : s.Idx → α) (w : (Rect.unit (s := s) off size inb).shape.Idx → α)
    (j : s.Idx) (a : Fin s.rank) (h : (j a).val < off a ∨ off a + size a ≤ (j a).val) :
    (Rect.unit (s := s) off size inb).overlay X w j = X j := by
  refine Rect.overlay_of_not_mem _ _ _ fun hj => ?_
  have := mem_unit.mp hj a
  omega

/-- A rectangle named by other offsets, equal to its own. -/
theorem overlay_off {off off' size : Fin s.rank → Nat} {inb inb'} (h : off = off') (X : s.Idx → α) (w : (⟨s.rank, size⟩ : Shape).Idx → α) :
    (Rect.unit (s := s) off size inb).overlay X w = (Rect.unit (s := s) off' size inb').overlay X w := by
  subst h; rfl

/-- After several rectangles are overwritten in turn an element of just one of them holds what was written there. -/
theorem overlays_mem {ι : Type} [DecidableEq ι] (off : ι → Fin s.rank → Nat) (size : Fin s.rank → Nat) (inb : ∀ k a, off k a + size a ≤ s.size a)
    (w : (k : ι) → (⟨s.rank, size⟩ : Shape).Idx → α) (j : s.Idx) (k : ι) (l : (⟨s.rank, size⟩ : Shape).Idx)
    (hl : ∀ a, (j a).val = off k a + (l a).val) (hj : ∀ k', k' ≠ k → ∃ a, (j a).val < off k' a ∨ off k' a + size a ≤ (j a).val)
    (ks : List ι) : ∀ X : s.Idx → α, k ∈ ks →
      ks.foldl (fun X k => (Rect.unit (s := s) (off k) size (inb k)).overlay X (w k)) X j = w k l := by
  have keep : ∀ (ks : List ι) (X : s.Idx → α), X j = w k l →
      ks.foldl (fun X k => (Rect.unit (s := s) (off k) size (inb k)).overlay X (w k)) X j = w k l := by
    intro ks
    induction ks with
    | nil => exact fun _ h => h
    | cons k' ks ih =>
      intro X h
      refine ih _ ?_
      by_cases hk : k' = k
      · subst hk
        exact overlay_mem X _ j l hl
      · obtain ⟨a, ha⟩ := hj k' hk
        exact (overlay_not_mem X _ j a ha).trans h
  induction ks with
  | nil => exact fun _ h => absurd h (by simp)
  | cons k' ks ih =>
    intro X h
    rcases List.mem_cons.mp h with rfl | h
    · exact keep ks _ (overlay_mem X _ j l hl)
    · exact ih _ h

/-- A whole array overwritten holds what was written. -/
theorem overlay_whole {off : Fin s.rank → Nat} {inb} (hoff : ∀ a, off a = 0) (X : s.Idx → α) (w : s.Idx → α) :
    (Rect.unit (s := s) off s.size inb).overlay X w = w := by
  funext j
  exact overlay_mem X w j j fun a => by rw [hoff]; omega

/-- A whole array read is the array. -/
theorem read_whole {off : Fin s.rank → Nat} {inb} (hoff : ∀ a, off a = 0) (X : s.Idx → α) :
    (fun l => X ((Rect.unit (s := s) off s.size inb).emb l)) = X := by
  funext j
  refine congrArg X (funext fun a => Fin.ext ?_)
  show off a + 1 * (j a).val = _
  rw [hoff]; omega

end Cert.TopK

end
-- ==== Proof.Step.lean ====
/-
  What the kernel's body leaves, in closed form: the buffers it fills anew at every step, the state after a tile's rows are
  inserted, and the result written at the last step.
-/
module

public import proofs.«01_k».proof.Proof.Run
public import proofs.«01_k».proof.Proof.Geometry

@[expose] public section

set_option maxRecDepth 16384

noncomputable section

namespace Cert.KernelIdeal.Gen

open Idealize.ShloMosaic Idealize.ShloMosaic.TcCoe
open Cert.TopK

variable {F : FTy → Type} [FloatOps F]

/-- The offsets of the result's trips: 128 rows each. -/
theorem off132_eq (t : Fin k0_t3_loop.trips) : k0_off132 t = ![128 * t.val, 0] := by
  revert t; decide +kernel

namespace Contents

/-- Row `j` of a tile's zero points or scales. -/
def sideIn {e : EltTy} (z : Vec F S8x128 e) (j : Fin 8) : Vec F S1x128 e :=
  fun l => z ((Rect.unit (s := S8x128) ![j.val, 0] S1x128.size (side_in j)).emb l)

/-- The block of 128 rows a row of the result lies in. -/
def blockOf {n : Nat} (j : (⟨2, ![1024, n]⟩ : Shape).Idx) : Fin 8 := ⟨(j 0).val / 128, Nat.div_lt_of_lt_mul (j 0).isLt⟩

/-- Its place in that block. -/
def placeOf {n : Nat} (j : (⟨2, ![1024, n]⟩ : Shape).Idx) : (⟨2, ![128, n]⟩ : Shape).Idx :=
  Shape.pair (d := ![128, n]) ⟨(j 0).val % 128, Nat.mod_lt _ (by decide)⟩ (j 1)

/-- The tile's zero points, one row of the buffer for each row of the tile, repeated over the columns. -/
def zbOf (z : Vec F S8x128 .i32) : Vec F S1024x128 .f32 := fun j => k0_pay1650 (sideIn z (blockOf j)) (placeOf j)

/-- The same for its scales. -/
def sbOf (z : Vec F S8x128 .f32) : Vec F S1024x128 .f32 := fun j => k0_pay1651 (sideIn z (blockOf j)) (placeOf j)

/-- Blocks of 128 rows overwritten one after another: each row holds what its block's writing put there. -/
theorem blocks_overlay {α : Type} {n : Nat} (inb : ∀ (k : Fin 8) (a : Fin 2), ![128 * k.val, 0] a + ![128, n] a ≤ ![1024, n] a)
    (w : Fin 8 → (⟨2, ![128, n]⟩ : Shape).Idx → α) (ks : List (Fin 8)) (hks : ∀ k, k ∈ ks) (X : (⟨2, ![1024, n]⟩ : Shape).Idx → α) :
    ks.foldl (fun X k => (Rect.unit (s := ⟨2, ![1024, n]⟩) ![128 * k.val, 0] ![128, n] (inb k)).overlay X (w k)) X
      = fun j => w (blockOf j) (placeOf j) := by
  funext j
  have h0 := (j 0).isLt
  refine overlays_mem (s := ⟨2, ![1024, n]⟩) (fun k : Fin 8 => ![128 * k.val, 0]) ![128, n] inb w j (blockOf j) (placeOf j) ?_ ?_ ks X (hks _)
  · refine Fin.forall_fin_two.mpr ⟨?_, ?_⟩
    · show (j 0).val = 128 * ((j 0).val / 128) + (j 0).val % 128
      omega
    · show (j 1).val = 0 + (j 1).val
      omega
  · intro k hk
    refine ⟨0, ?_⟩
    show (j 0).val < 128 * k.val ∨ 128 * k.val + 128 ≤ (j 0).val
    have : (j 0).val / 128 ≠ k.val := fun h => hk (Fin.ext h.symm)
    omega

theorem sides_fold (ks : List (Fin 8)) : ∀ C : Contents F, ks.foldl side C =
    { C with
      zb := ks.foldl (fun Z j => (Rect.unit (s := S1024x128) ![128 * j.val, 0] S128x128.size (side_out j)).overlay Z (k0_pay1650 (sideIn C.zero j))) C.zb
      sb := ks.foldl (fun Z j => (Rect.unit (s := S1024x128) ![128 * j.val, 0] S128x128.size (side_out j)).overlay Z (k0_pay1651 (sideIn C.scale j))) C.sb } := by
  induction ks with
  | nil => exact fun _ => rfl
  | cons k ks ih => intro C; simp only [List.foldl_cons, ih]; rfl

theorem sides_eq (C : Contents F) : C.sides = { C with zb := zbOf C.zero, sb := sbOf C.scale } := by
  refine (sides_fold _ C).trans ?_
  rw [show ([0, 1, 2, 3, 4, 5, 6, 7] : List (Fin 8)).foldl (fun Z j => (Rect.unit (s := S1024x128) ![128 * j.val, 0] S128x128.size (side_out j)).overlay Z (k0_pay1650 (sideIn C.zero j))) C.zb = zbOf C.zero from
      blocks_overlay side_out (fun j => k0_pay1650 (sideIn C.zero j)) _ (by decide) _,
    show ([0, 1, 2, 3, 4, 5, 6, 7] : List (Fin 8)).foldl (fun Z j => (Rect.unit (s := S1024x128) ![128 * j.val, 0] S128x128.size (side_out j)).overlay Z (k0_pay1651 (sideIn C.scale j))) C.sb = sbOf C.scale from
      blocks_overlay side_out (fun j => k0_pay1651 (sideIn C.scale j)) _ (by decide) _]

theorem two_zero : ∀ a : Fin 2, (![0, 0] : Fin 2 → Nat) a = 0 := by decide

/-- The contents when the tile's rows are about to be inserted. -/
theorem prepared_eq (i : grid0.Coords) (C : Contents F) : multiplied (sides (summed i (cleared i C))) =
    { C with
      s := k0_pay1 (k0_pay1668 C.codes C.x)
      xs := if isFirst i = 1#1 then k0_pay1649 C.x else C.xs
      zb := zbOf C.zero
      sb := sbOf C.scale
      state := if isFirst i = 1#1 then k0_pay1648 else C.state } := by
  rw [sides_eq]
  unfold multiplied summed cleared
  have o1 := @overlay_whole S512x1024 (F .f32) ![0, 0] inb_S512x1024_S512x1024_0_0 two_zero
  have o2 := @overlay_whole S8x1024 (F .f32) ![0, 0] inb_S8x1024_S8x1024_0_0 two_zero
  have o3 := @overlay_whole S1024x1024 (F .f32) ![0, 0] inb_S1024x1024_S1024x1024_0_0 two_zero
  have r1 := @read_whole S1024x4096 (F .bf16) ![0, 0] inb_S1024x4096_S1024x4096_0_0 two_zero C.x
  have r2 := @read_whole S1024x4096 (BitVec 8) ![0, 0] inb_S1024x4096_S1024x4096_0_0 two_zero C.codes
  split
  · dsimp only
    rw [o1, o2, o3]
    exact congrArg₂ (fun c x => ({ C with s := k0_pay1 (k0_pay1668 c x), xs := k0_pay1649 x, zb := zbOf C.zero, sb := sbOf C.scale, state := k0_pay1648 } : Contents F)) r2 r1
  · dsimp only
    rw [o3]
    exact congrArg₂ (fun c x => ({ C with s := k0_pay1 (k0_pay1668 c x), zb := zbOf C.zero, sb := sbOf C.scale } : Contents F)) r2 r1

/-- The state after rows of scores `S t u` are inserted, for every group of columns `t` and group of rows `u`. -/
def tileState (S : Fin k0_t1_loop.trips → Fin k0_t2_loop.trips → FVec F S8x128 .f32) (st : FVec F S512x1024 .f32) :
    FVec F S512x1024 .f32 :=
  (List.finRange k0_t1_loop.trips).foldl (fun st t =>
    (List.finRange k0_t2_loop.trips).foldl (fun st u => inserted (slots t) (S t u) st) st) st

theorem scores_state (C : Contents F) (st : FVec F S512x1024 .f32) : ({ C with state := st } : Contents F).scores = C.scores := rfl

theorem insertGroup_eq (C : Contents F) (t : Fin k0_t1_loop.trips) : C.insertGroup t =
    { C with state := (List.finRange k0_t2_loop.trips).foldl (fun st u => inserted (slots t) (C.scores t u) st) C.state } := by
  unfold insertGroup
  generalize List.finRange k0_t2_loop.trips = us
  induction us generalizing C with
  | nil => rfl
  | cons u us ih => rw [List.foldl_cons, List.foldl_cons, ih]; unfold insert1; simp only [scores_state]

theorem insertTile_eq (C : Contents F) : C.insertTile = { C with state := tileState C.scores C.state } := by
  unfold insertTile tileState
  generalize List.finRange k0_t1_loop.trips = ts
  induction ts generalizing C with
  | nil => rfl
  | cons t ts ih => rw [List.foldl_cons, List.foldl_cons, ih, insertGroup_eq]; simp only [scores_state]

/-- The result read off the state at the last step. -/
def outOf (i : grid0.Coords) (h : k0_cond3 i = 1#1) (st : FVec F S512x1024 .f32) : Vec F S1024x64 .f32 := fun j =>
  resultOf (mergeSublanes ((lastSlots i h (blockOf j)).map (slotRead st))) (placeOf j)

theorem finish_fold (i : grid0.Coords) (h : k0_cond3 i = 1#1) (ts : List (Fin k0_t3_loop.trips)) : ∀ C : Contents F,
    ts.foldl (finish1 i h) C = { C with
      out := ts.foldl (fun O (t : Fin k0_t3_loop.trips) => (Rect.unit (s := S1024x64) (k0_off132 t) S128x64.size (k0_off132_inb i t h)).overlay O
          (resultOf (mergeSublanes ((lastSlots i h t).map (slotRead C.state))))) C.out } := by
  induction ts with
  | nil => exact fun _ => rfl
  | cons t ts ih => intro C; simp only [List.foldl_cons, ih]; rfl

theorem finished_eq (i : grid0.Coords) (h : k0_cond3 i = 1#1) (C : Contents F) : C.finished i = { C with out := outOf i h C.state } := by
  unfold finished
  rw [dif_pos h, finish_fold]
  have inb : ∀ (k : Fin 8) (a : Fin 2), ![128 * k.val, 0] a + ![128, 64] a ≤ ![1024, 64] a := by decide +kernel
  have hf : (fun (O : Vec F S1024x64 .f32) (t : Fin k0_t3_loop.trips) => (Rect.unit (s := S1024x64) (k0_off132 t) S128x64.size (k0_off132_inb i t h)).overlay O
          (resultOf (mergeSublanes ((lastSlots i h t).map (slotRead C.state)))))
      = fun O t => (Rect.unit (s := S1024x64) ![128 * t.val, 0] S128x64.size (inb t)).overlay O
          (resultOf (mergeSublanes ((lastSlots i h t).map (slotRead C.state)))) := by
    funext O t
    exact overlay_off (off132_eq t) _ _
  have := (congrArg (fun f => (List.finRange 8).foldl f C.out) hf).trans
    (blocks_overlay inb (fun t => resultOf (mergeSublanes ((lastSlots i h t).map (slotRead C.state)))) _ (fun k => List.mem_finRange k) C.out)
  exact congrArg (fun o => ({ C with out := o } : Contents F)) this

theorem unfinished_eq (i : grid0.Coords) (h : k0_cond3 i ≠ 1#1) (C : Contents F) : C.finished i = C := dif_neg h

/-- What the body leaves depends on the four inputs alone at the first step, else also on the row sums and the state it finds;
    nothing else of the scratch is read before it is written. -/
theorem step_congr (i : grid0.Coords) (C C' : Contents F) (hx : C.x = C'.x) (hc : C.codes = C'.codes) (hs : C.scale = C'.scale)
    (hz : C.zero = C'.zero) (h : isFirst i = 1#1 ∨ (C.xs = C'.xs ∧ C.state = C'.state)) :
    (C.step i).xs = (C'.step i).xs ∧ (C.step i).state = (C'.step i).state
      ∧ (k0_cond3 i = 1#1 → (C.step i).out = (C'.step i).out) := by
  unfold step
  rw [prepared_eq, prepared_eq, insertTile_eq, insertTile_eq, hx, hc, hs, hz]
  have e1 : (if isFirst i = 1#1 then k0_pay1649 C'.x else C.xs) = if isFirst i = 1#1 then k0_pay1649 C'.x else C'.xs := by
    split
    · rfl
    · exact (h.resolve_left ‹_›).1
  have e2 : (if isFirst i = 1#1 then k0_pay1648 else C.state) = if isFirst i = 1#1 then k0_pay1648 else C'.state := by
    split
    · rfl
    · exact (h.resolve_left ‹_›).2
  rw [e1, e2]
  by_cases h3 : k0_cond3 i = 1#1
  · rw [finished_eq i h3, finished_eq i h3]
    exact ⟨rfl, rfl, fun _ => rfl⟩
  · rw [unfinished_eq i h3, unfinished_eq i h3]
    exact ⟨rfl, rfl, fun h => absurd h h3⟩

/-- The body leaves its four inputs as they are, and the result's buffer except at the last step. -/
theorem step_inputs (i : grid0.Coords) (C : Contents F) : (C.step i).x = C.x ∧ (C.step i).codes = C.codes ∧ (C.step i).scale = C.scale
    ∧ (C.step i).zero = C.zero ∧ (k0_cond3 i ≠ 1#1 → (C.step i).out = C.out) := by
  unfold step
  rw [prepared_eq, insertTile_eq]
  by_cases h3 : k0_cond3 i = 1#1
  · rw [finished_eq i h3]
    exact ⟨rfl, rfl, rfl, rfl, fun h => absurd h3 h⟩
  · rw [unfinished_eq i h3]
    exact ⟨rfl, rfl, rfl, rfl, fun _ => rfl⟩

end Contents

end Cert.KernelIdeal.Gen

end
-- ==== Proof.Launch.lean ====
/-
  The run of the kernel: what the scratch and the result's buffer hold after every step, the body's obligation at every
  grid point, and what every final state holds.
-/
module

public import proofs.«01_k».proof.Proof.Step
public import proofs.«01_k».proof.Proof.Gen.KernelIdeal
public import proofs.«01_k».proof.Proof.Gen.KernelIdeal.Frame

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TopK

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first step is the one that clears the scratch, -/
theorem first_iff : ∀ t : Fin grid0.N, isFirst (grid0.coords t) = 1#1 ↔ t.val = 0 := by decide +kernel

/-- and the last one the one that writes the result. -/
theorem last_iff : ∀ t : Fin grid0.N, k0_cond3 (grid0.coords t) = 1#1 ↔ t.val = 63 := by decide +kernel

/-- The contents with the four inputs' blocks at a point. -/
def withInputs (c : Dev nD) (t : Fin cfg0.N) (C : Contents F) : Contents F :=
  { C with x := iblk m c 0 t, codes := iblk m c 1 t, scale := iblk m c 2 t, zero := iblk m c 3 t }

/-- Some contents, to begin with: nothing read depends on them. -/
def start (c : Dev nD) : Contents F where
  x := iblk m c 0 ⟨0, by decide⟩
  codes := iblk m c 1 ⟨0, by decide⟩
  scale := iblk m c 2 ⟨0, by decide⟩
  zero := iblk m c 3 ⟨0, by decide⟩
  out := fun _ => k0_pay1648 (Shape.pair (d := ![512, 1024]) ⟨0, by decide⟩ ⟨0, by decide⟩)
  s := fun _ => k0_pay1648 (Shape.pair (d := ![512, 1024]) ⟨0, by decide⟩ ⟨0, by decide⟩)
  xs := fun _ => k0_pay1648 (Shape.pair (d := ![512, 1024]) ⟨0, by decide⟩ ⟨0, by decide⟩)
  zb := fun _ => k0_pay1648 (Shape.pair (d := ![512, 1024]) ⟨0, by decide⟩ ⟨0, by decide⟩)
  sb := fun _ => k0_pay1648 (Shape.pair (d := ![512, 1024]) ⟨0, by decide⟩ ⟨0, by decide⟩)
  state := k0_pay1648

/-- The contents after `n` steps. -/
def carry (c : Dev nD) : Nat → Contents F
  | 0 => start m c
  | n + 1 => if h : n < cfg0.N then (withInputs m c ⟨n, h⟩ (carry c n)).step (grid0.coords ⟨n, h⟩) else carry c n

theorem carry_succ (c : Dev nD) (t : Fin cfg0.N) :
    carry m c (t.val + 1) = (withInputs m c t (carry m c t.val)).step (grid0.coords t) := by
  rw [carry, dif_pos t.isLt]

/-- The five scratch buffers. -/
def Scratch (c : Dev nD) (C : Contents F) : sProp 𝕄 :=
  iprop(owns (c : Thread nD τ) (Memref.whole cc0_scratch0) fullShare C.s ∗ owns (c : Thread nD τ) (Memref.whole cc0_scratch1) fullShare C.xs
    ∗ owns (c : Thread nD τ) (Memref.whole cc0_scratch2) fullShare C.zb ∗ owns (c : Thread nD τ) (Memref.whole cc0_scratch3) fullShare C.sb
    ∗ owns (c : Thread nD τ) (Memref.whole cc0_scratch4) fullShare C.state)

/-- The invariant after `n` steps: after the first step the row sums and the state are those of `carry`. -/
def Inv (c : Dev nD) (n : Nat) : sProp 𝕄 :=
  iprop((∃ C : Contents F, ⌜n ≠ 0 → C.xs = (carry m c n).xs ∧ C.state = (carry m c n).state⌝ ∗ Scratch c C) ∗ ∃ r, prngReg c r)

/-- The proof data of the pipeline. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => (carry m c (t.val + 1)).out
  Φ t := Inv m c t.val
  q _ := fullShare
  owed _ := 0

/-- The invariant before the first step, -/
theorem inv_in (c : Dev nD) : Pipeline.ΦA (U := UR sig nD τ) (Val := Elt F) cfg0.spec c ⊢ (dats m 0 c).Φ 0 := by
  show Pipeline.ΦA (U := UR sig nD τ) (Val := Elt F) spec0 c ⊢ Inv m c 0
  unfold Pipeline.ΦA Inv Scratch
  rw [scopedRest0_eq]
  simp only [owns_whole]
  iintro ⟨⟨⟨%s, Hs⟩, ⟨%xs, Hxs⟩, ⟨%zb, Hzb⟩, ⟨%sb, Hsb⟩, ⟨%st, Hst⟩⟩, Hr⟩
  isplitr [Hr]
  · iexists { start m c with s := s, xs := xs, zb := zb, sb := sb, state := st }
    isplitr
    · ipureintro; exact fun h => absurd rfl h
    isplitl [Hs]; · iexact Hs
    isplitl [Hxs]; · iexact Hxs
    isplitl [Hzb]; · iexact Hzb
    isplitl [Hsb]; · iexact Hsb
    iexact Hst
  · iexact Hr

/-- and after the last, the scratch forgotten. -/
theorem inv_out (c : Dev nD) : (dats m 0 c).Φ (Fin.last cfg0.N) ⊢ Pipeline.ΦA (U := UR sig nD τ) (Val := Elt F) cfg0.spec c := by
  show Inv m c _ ⊢ Pipeline.ΦA (U := UR sig nD τ) (Val := Elt F) spec0 c
  unfold Pipeline.ΦA Inv Scratch
  rw [scopedRest0_eq]
  simp only [owns_whole]
  iintro ⟨⟨%C, -, Hs, Hxs, Hzb, Hsb, Hst⟩, Hr⟩
  isplitr [Hr]
  · isplitl [Hs]; · iexists _; iexact Hs
    isplitl [Hxs]; · iexists _; iexact Hxs
    isplitl [Hzb]; · iexists _; iexact Hzb
    isplitl [Hsb]; · iexists _; iexact Hsb
    iexists _; iexact Hst
  · iexact Hr

/-- The windows' staging buffers at a point, as the body is handed them. -/
def Staged (c : Dev nD) (t : Fin cfg0.N) (C : Contents F) : sProp 𝕄 :=
  iprop(owns (c : Thread nD τ) (st0_0 t) fullShare C.x ∗ owns (c : Thread nD τ) (st0_1 t) fullShare C.codes
    ∗ owns (c : Thread nD τ) (st0_2 t) fullShare C.scale ∗ owns (c : Thread nD τ) (st0_3 t) fullShare C.zero
    ∗ owns (c : Thread nD τ) (st0_4 t) fullShare C.out)

/-- The body at a point, from any contents to those after its step. -/
theorem body_runs (c : Dev nD) (t : Fin cfg0.N) (C : Contents F) (R : sProp 𝕄) :
    iprop((Staged c t C ∗ Scratch c C) ∗ R) ⊢ wp frame (wpE (defs₀ (F := F)) Variants.none c none) Set.univ (bodyAt0 t)
      (fun _ => iprop((Staged c t (C.step (grid0.coords t)) ∗ Scratch c (C.step (grid0.coords t))) ∗ R)) := by
  unfold bodyAt0
  rw [body_eq]
  have e : ∀ C : Contents F, iprop(Staged c t C ∗ Scratch c C) = Holds c (st0_0 t) (st0_1 t) (st0_2 t) (st0_3 t) (st0_4 t)
      (Memref.whole cc0_scratch0) (Memref.whole cc0_scratch1) (Memref.whole cc0_scratch2) (Memref.whole cc0_scratch3)
      (Memref.whole cc0_scratch4) C := fun C => (holds_split C).symm
  rw [e, e]
  exact BIBase.Entails.trans (sep_mono_l (runs_body (grid0.coords t) C).wp) (wp_frame_r _ _ _)

/-- The body's obligation at every point. -/
theorem body_obligation (c : Dev nD) : BodyObligation (dats m 0 c) (defs₀ (F := F)) Variants.none () Set.univ := fun t => by
  rw [bigSep_W0, bigSep_W0]
  have e0 := fun d => before0_0_of m (dats m 0 c) rfl (fun _ => rfl) t d
  have e1 := fun d => before0_1_of m (dats m 0 c) rfl (fun _ => rfl) t d
  have e2 := fun d => before0_2_of m (dats m 0 c) rfl (fun _ => rfl) t d
  have e3 := fun d => before0_3_of m (dats m 0 c) rfl (fun _ => rfl) t d
  show iprop(Inv m c t.val ∗ (dats m 0 c).owesAt () t.castSucc ∗ (∃ d, owns (c : Thread nD τ) (st0_0 t) fullShare ((dats m 0 c).before 0 t d))
      ∗ (∃ d, owns (c : Thread nD τ) (st0_1 t) fullShare ((dats m 0 c).before 1 t d)) ∗ (∃ d, owns (c : Thread nD τ) (st0_2 t) fullShare ((dats m 0 c).before 2 t d))
      ∗ (∃ d, owns (c : Thread nD τ) (st0_3 t) fullShare ((dats m 0 c).before 3 t d)) ∗ (∃ d, owns (c : Thread nD τ) (st0_4 t) fullShare ((dats m 0 c).before 4 t d)))
    ⊢ wp frame (wpE (defs₀ (F := F)) Variants.none c none) Set.univ (bodyAt0 t) (fun _ =>
      iprop(Inv m c (t.val + 1) ∗ (dats m 0 c).owesAt () t.castSucc ∗ owns (c : Thread nD τ) (st0_0 t) fullShare (iblk m c 0 t)
        ∗ owns (c : Thread nD τ) (st0_1 t) fullShare (iblk m c 1 t) ∗ owns (c : Thread nD τ) (st0_2 t) fullShare (iblk m c 2 t)
        ∗ owns (c : Thread nD τ) (st0_3 t) fullShare (iblk m c 3 t)
        ∗ match !(k0_cond3 (grid0.coords t) == 1#1) with
          | true => match (cfg0.win 4).flush t with
            | false => iprop(∃ d, owns (c : Thread nD τ) (st0_4 t) fullShare ((dats m 0 c).before 4 t d))
            | true => owns (c : Thread nD τ) (st0_4 t) fullShare (carry m c (t.val + 1)).out
          | false => owns (c : Thread nD τ) (st0_4 t) fullShare (carry m c (t.val + 1)).out))
  simp only [e0, e1, e2, e3]
  iintro ⟨Hinv, Howes, ⟨%d0, H0⟩, ⟨%d1, H1⟩, ⟨%d2, H2⟩, ⟨%d3, H3⟩, ⟨%d4, H4⟩⟩
  ihave Hinv' := (show Inv m c t.val ⊢ iprop((∃ C : Contents F, ⌜t.val ≠ 0 → C.xs = (carry m c t.val).xs ∧ C.state = (carry m c t.val).state⌝ ∗ Scratch c C) ∗ ∃ r, prngReg c r) from .rfl) $$ Hinv
  icases Hinv' with ⟨⟨%C₀, %hC, Hs⟩, Hr⟩
  have hcond : isFirst (grid0.coords t) = 1#1 ∨ (C₀.xs = (carry m c t.val).xs ∧ C₀.state = (carry m c t.val).state) := by
    by_cases h : t.val = 0
    · exact .inl ((first_iff t).mpr h)
    · exact .inr (hC h)
  have hstep := Contents.step_congr (grid0.coords t) { withInputs m c t C₀ with out := (dats m 0 c).before 4 t d4 }
    (withInputs m c t (carry m c t.val)) rfl rfl rfl rfl hcond
  have hin := Contents.step_inputs (grid0.coords t) { withInputs m c t C₀ with out := (dats m 0 c).before 4 t d4 }
  rw [← carry_succ] at hstep
  generalize hC' : Contents.step (grid0.coords t) { withInputs m c t C₀ with out := (dats m 0 c).before 4 t d4 } = C' at hstep hin
  iapply (BIBase.Entails.trans (body_runs c t { withInputs m c t C₀ with out := (dats m 0 c).before 4 t d4 }
    iprop((dats m 0 c).owesAt () t.castSucc ∗ ∃ r, prngReg c r)) (wp_mono _ _ _ fun _ => ?_))
  · rw [hC']
    unfold Staged
    rw [hin.1, hin.2.1, hin.2.2.1, hin.2.2.2.1]
    iintro ⟨⟨⟨H0, H1, H2, H3, H4⟩, Hs⟩, Howes, Hr⟩
    isplitl [Hs Hr]
    · unfold Inv
      isplitl [Hs]
      · iexists C'
        isplitr
        · ipureintro; exact fun _ => ⟨hstep.1, hstep.2.1⟩
        · iexact Hs
      · iexact Hr
    isplitl [Howes]; · iexact Howes
    isplitl [H0]; · iexact H0
    isplitl [H1]; · iexact H1
    isplitl [H2]; · iexact H2
    isplitl [H3]; · iexact H3
    by_cases h3 : k0_cond3 (grid0.coords t) = 1#1
    · rw [show (!(k0_cond3 (grid0.coords t) == 1#1)) = false from by simp [h3]]
      rw [hstep.2.2 h3]
      iexact H4
    · have hf : (cfg0.win 4).flush t = false := by
        rw [Bool.eq_false_iff]
        intro h
        have := (flush0_4 t).mp h
        have hlt : t.val < 64 := t.isLt
        exact h3 ((last_iff t).mpr (by omega))
      rw [show (!(k0_cond3 (grid0.coords t) == 1#1)) = true from by simp [h3], hf, hin.2.2.2.2 h3]
      iexists d4
      iexact H4
  · isplitr [Howes Hr]
    · isplitr [Hs]
      · unfold Staged
        isplitl [H0]; · iexact H0
        isplitl [H1]; · iexact H1
        isplitl [H2]; · iexact H2
        isplitl [H3]; · iexact H3
        iexact H4
      · iexact Hs
    · isplitl [Howes]; · iexact Howes
      iexact Hr

/-- Every weakly fair execution ends, every counter at zero and every array at what the proof data say. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := fun c => (body_obligation m c).loose) (hshare := fun c w => (dats m 0 c).share_full (fun _ => rfl) w)
    (howed := fun _ _ => rfl) (V₀ := V0 m) (opss := [hostOps1]) (hsub := sfx_sub) (hfresh := sfx_fresh) (hkeep := sfx_keeps)
    (hmain := hmain m Variants.none) (hA := fun _ _ => rfl) (hin := inv_in m) (hout := inv_out m)
    (Q' := fun r => Pipeline.FramePost cfgs (dats m) 0 (Pipeline.afterTail₀ cfgs (dats m) 0 (V0 m) [hostOps1]) r ∧ r.2.sem = fun _ => 0)
    (hQ' := fun _ h => h)

end Cert.KernelIdeal.Gen

end
-- ==== Proof.Frames.lean ====
/-
  The frame of the kernel: every execution ends, the arguments unchanged and every counter at zero.
-/
module

public import proofs.«01_k».proof.Defs
public import proofs.«01_k».proof.Proof.Launch
public import proofs.«01_k».proof.Proof.Gen.Kernel
public import Idealize.ShloMosaic.Lib.Pipeline.Regions

@[expose] public section

set_option maxRecDepth 16384

noncomputable section

namespace Cert.KernelIdeal.Gen

open Idealize.ShloMosaic Idealize.ShloMosaic.TcCoe
open Idealize.SL Idealize.SL.Sem

/-- The frame of the printed kernel at any floats `F`. -/
def Quiescent (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem quiescent (F : FTy → Type) [FloatOps F] : Quiescent F := by
  intro m g _
  refine (θ_run defs _ _).mono (fun r h => ⟨?_, h.2⟩) (run_main m g)
  intro c
  exact ⟨((h.1 c).2 main_arg0 (Pipeline.mem_restRefs_of main_arg0 (by decide) (by decide))).trans (W_main_arg0 m (dats m) c),
    ((h.1 c).1 1).trans (((dats m 0 c).arrAt_in 1 rfl _).trans (V_main_arg1 m c)),
    (((h.1 c).2 main_arg2 (Pipeline.mem_restRefs_of main_arg2 (by decide) (by decide))).trans (W_main_arg2 m (dats m) c)),
    (((h.1 c).2 main_arg3 (Pipeline.mem_restRefs_of main_arg3 (by decide) (by decide))).trans (W_main_arg3 m (dats m) c))⟩

theorem quiescent_ideal : quiescent_KernelIdeal (hKernelIdeal := Cert.KernelIdeal.Gen.facts) := quiescent Ideal

/-- The printed kernel and its ideal reading are one program. -/
theorem kernel_eq : quiescent_Kernel (hKernel := Cert.Kernel.Gen.facts) = Quiescent Bits := by
  chain_rfl

theorem quiescent_bits : quiescent_Kernel (hKernel := Cert.Kernel.Gen.facts) := kernel_eq.mpr (quiescent Bits)

end Cert.KernelIdeal.Gen

end
-- ==== Proof.Reference.lean ====
/-
  The frame of the reference: every run ends, leaves the four arguments as they were and every counter at zero.
-/
module

public import proofs.«01_k».proof.Defs
public import proofs.«01_k».proof.Proof.Gen.ReferenceIdeal.Run
public import proofs.«01_k».proof.Proof.Gen.ReferenceIdeal.Read
public import Idealize.ShloMosaic.Lib.Quiescent

@[expose] public section

noncomputable section

namespace Cert.TopK

open Cert Idealize.ShloMosaic Idealize.ShloMosaic.TcCoe Idealize.SL.Sem

/-- The frame of the reference: its run read at the four arguments, which no operation writes; it declares no
    semaphore. -/
theorem quiescent_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.TopK

end
-- ==== Proof.Top.lean ====
/-
  The greatest entries of a collection, by counting: entry `k` of a list is at least `t` exactly when more than `k`
  members of the collection are, for every `t` above the least element. Insertion, merging and uniqueness.
-/
module

public import Mathlib.Order.Lattice
public import Mathlib.Order.BoundedOrder.Basic
public import Mathlib.Order.MinMax
public import Mathlib.Data.List.Basic
public import Mathlib.Tactic.Common
public import proofs.«01_k».proof.Proof.Network

@[expose] public section

namespace Cert.TopK

theorem bitonic_map {α β : Type} (f : α → β) (mx mn : α → α → α) (mx' mn' : β → β → β) (hx : ∀ a b, f (mx a b) = mx' (f a) (f b))
    (hn : ∀ a b, f (mn a b) = mn' (f a) (f b)) (k : ℕ) : ∀ l, (bitonic mx mn k l).map f = bitonic mx' mn' k (l.map f) := by
  induction k with
  | zero => intro l; rfl
  | succ k ih =>
    intro l
    simp only [bitonic, List.map_append, ih, List.map_zipWith, hx, hn]
    rw [← List.map_take, ← List.map_drop, List.zipWith_map, List.zipWith_map]

theorem mergeTop_map {α β : Type} (f : α → β) (mx mn : α → α → α) (mx' mn' : β → β → β) (hx : ∀ a b, f (mx a b) = mx' (f a) (f b))
    (hn : ∀ a b, f (mn a b) = mn' (f a) (f b)) (k : ℕ) (a b : List α) :
    (mergeTop mx mn k a b).map f = mergeTop mx' mn' k (a.map f) (b.map f) := by
  unfold mergeTop
  rw [bitonic_map f mx mn mx' mn' hx hn, List.map_zipWith, ← List.map_reverse, List.zipWith_map]
  simp only [hx]

variable {α : Type} [LinearOrder α] [OrderBot α]

/-- The entries `a 0, a 1, …` are the greatest of a collection of which `c t` members are at least `t`. -/
def Top (c : α → ℕ) (k : ℕ) (a : α) : Prop := ∀ t, ⊥ < t → (t ≤ a ↔ k < c t)

/-- An element is determined by the elements above the least which lie below it. -/
theorem eq_of_le_iff {a b : α} (h : ∀ t, ⊥ < t → (t ≤ a ↔ t ≤ b)) : a = b := by
  have key : ∀ a b : α, (∀ t, ⊥ < t → (t ≤ a → t ≤ b)) → a ≤ b := fun a b h => by
    rcases eq_or_ne a ⊥ with rfl | ha
    · exact bot_le
    · exact h a (bot_lt_iff_ne_bot.mpr ha) le_rfl
  exact le_antisymm (key a b fun t ht => (h t ht).mp) (key b a fun t ht => (h t ht).mpr)

/-- The greatest entries are determined by the collection, and by its counts up to `n` alone. -/
theorem Top.unique {c c' : α → ℕ} {k n : ℕ} {a a' : α} (h : Top c k a) (h' : Top c' k a') (hk : k < n)
    (hc : ∀ t, ⊥ < t → min n (c t) = min n (c' t)) : a = a' := by
  refine eq_of_le_iff fun t ht => (h t ht).trans (Iff.trans ?_ (h' t ht).symm)
  have := hc t ht
  omega

theorem Top.congr {c c' : α → ℕ} {k : ℕ} {a : α} (h : Top c k a) (hc : ∀ t, ⊥ < t → c t = c' t) : Top c' k a :=
  fun t ht => (h t ht).trans (by rw [hc t ht])

/-- The counts after `v` joins. -/
def add (c : α → ℕ) (v : α) : α → ℕ := fun t => c t + if t ≤ v then 1 else 0

/-- What is carried to slot `k`: at least `t` exactly when `v` is and every slot before is. -/
def Carried (c : α → ℕ) (v : α) (k : ℕ) (w : α) : Prop := ∀ t, ⊥ < t → (t ≤ w ↔ t ≤ v ∧ k ≤ c t)

theorem Carried.zero (c : α → ℕ) (v : α) : Carried c v 0 v := fun _ _ => by simp

/-- Inserting at slot `k`: the slot keeps the greater. -/
theorem Top.insert {c : α → ℕ} {v w a : α} {k : ℕ} (h : Top c k a) (hw : Carried c v k w) : Top (add c v) k (max a w) := by
  intro t ht
  rw [le_max_iff, h t ht, hw t ht]
  unfold add
  by_cases hv : t ≤ v
  · simp only [hv, true_and, if_true]; omega
  · simp only [hv, false_and, or_false, if_false, Nat.add_zero]

/-- Inserting at slot `k`: the lesser is carried on. -/
theorem Carried.step {c : α → ℕ} {v w a : α} {k : ℕ} (h : Top c k a) (hw : Carried c v k w) : Carried c v (k + 1) (min a w) := by
  intro t ht
  rw [le_min_iff, h t ht, hw t ht]
  exact ⟨fun h => ⟨h.2.1, h.1⟩, fun h => ⟨h.2, h.1, Nat.le_of_succ_le h.2⟩⟩

/-- `i` times true and then false, `n` in all. -/
def ones (n i : ℕ) : List Bool := (List.range n).map (fun k => decide (k < i))

/-- Truth values `f 0 … f (n - 1)`, `c` of them true, that read round a circle are true on one stretch. -/
def Arc (n c : ℕ) (f : ℕ → Bool) : Prop :=
  (∃ a b, a ≤ b ∧ b ≤ n ∧ c + b = a + n ∧ ∀ k < n, f k = decide (k < a ∨ b ≤ k))
    ∨ (∃ a b, a ≤ b ∧ b ≤ n ∧ c + a = b ∧ ∀ k < n, f k = decide (a ≤ k ∧ k < b))

theorem Arc.outer {n c : ℕ} {f : ℕ → Bool} (a b : ℕ) (hab : a ≤ b) (hb : b ≤ n) (hc : c + b = a + n)
    (hf : ∀ k < n, f k = decide (k < a ∨ b ≤ k)) : Arc n c f := .inl ⟨a, b, hab, hb, hc, hf⟩

theorem Arc.inner {n c : ℕ} {f : ℕ → Bool} (a b : ℕ) (hab : a ≤ b) (hb : b ≤ n) (hc : c + a = b)
    (hf : ∀ k < n, f k = decide (a ≤ k ∧ k < b)) : Arc n c f := .inr ⟨a, b, hab, hb, hc, hf⟩

theorem or_eq {p q r : Prop} [Decidable p] [Decidable q] [Decidable r] (h : p ∨ q ↔ r) : (decide p || decide q) = decide r := by
  rw [← Bool.decide_or, decide_eq_decide]; exact h

theorem and_eq {p q r : Prop} [Decidable p] [Decidable q] [Decidable r] (h : p ∧ q ↔ r) : (decide p && decide q) = decide r := by
  rw [← Bool.decide_and, decide_eq_decide]; exact h

/-- A column of comparators: the greater halves. -/
theorem Arc.or {n c : ℕ} {f : ℕ → Bool} (h : Arc (n + n) c f) : Arc n (min n c) (fun k => f k || f (n + k)) := by
  rcases h with ⟨a, b, hab, hb, hc, hf⟩ | ⟨a, b, hab, hb, hc, hf⟩
  · by_cases h1 : b ≤ a + n
    · refine .outer n n (by omega) (by omega) (by omega) fun k hk => ?_
      rw [hf k (by omega), hf (n + k) (by omega)]; exact or_eq (by omega)
    · refine .outer a (b - n) (by omega) (by omega) (by omega) fun k hk => ?_
      rw [hf k (by omega), hf (n + k) (by omega)]; exact or_eq (by omega)
  · by_cases h1 : b ≤ n
    · refine .inner a b (by omega) (by omega) (by omega) fun k hk => ?_
      rw [hf k (by omega), hf (n + k) (by omega)]; exact or_eq (by omega)
    by_cases h2 : n ≤ a
    · refine .inner (a - n) (b - n) (by omega) (by omega) (by omega) fun k hk => ?_
      rw [hf k (by omega), hf (n + k) (by omega)]; exact or_eq (by omega)
    by_cases h3 : b - n ≤ a
    · refine .outer (b - n) a (by omega) (by omega) (by omega) fun k hk => ?_
      rw [hf k (by omega), hf (n + k) (by omega)]; exact or_eq (by omega)
    · refine .outer n n (by omega) (by omega) (by omega) fun k hk => ?_
      rw [hf k (by omega), hf (n + k) (by omega)]; exact or_eq (by omega)

/-- A column of comparators: the lesser halves. -/
theorem Arc.and {n c : ℕ} {f : ℕ → Bool} (h : Arc (n + n) c f) : Arc n (c - n) (fun k => f k && f (n + k)) := by
  rcases h with ⟨a, b, hab, hb, hc, hf⟩ | ⟨a, b, hab, hb, hc, hf⟩
  · by_cases h1 : b ≤ n
    · refine .outer a b (by omega) (by omega) (by omega) fun k hk => ?_
      rw [hf k (by omega), hf (n + k) (by omega)]; exact and_eq (by omega)
    by_cases h2 : n ≤ a
    · refine .outer (a - n) (b - n) (by omega) (by omega) (by omega) fun k hk => ?_
      rw [hf k (by omega), hf (n + k) (by omega)]; exact and_eq (by omega)
    by_cases h3 : b ≤ a + n
    · refine .inner (b - n) a (by omega) (by omega) (by omega) fun k hk => ?_
      rw [hf k (by omega), hf (n + k) (by omega)]; exact and_eq (by omega)
    · refine .inner 0 0 (by omega) (by omega) (by omega) fun k hk => ?_
      rw [hf k (by omega), hf (n + k) (by omega)]; exact and_eq (by omega)
  · by_cases h1 : a + n ≤ b
    · refine .inner a (b - n) (by omega) (by omega) (by omega) fun k hk => ?_
      rw [hf k (by omega), hf (n + k) (by omega)]; exact and_eq (by omega)
    · refine .inner 0 0 (by omega) (by omega) (by omega) fun k hk => ?_
      rw [hf k (by omega), hf (n + k) (by omega)]; exact and_eq (by omega)

theorem zipWith_self {β γ δ ε : Type} (g : γ → δ → ε) (f : β → γ) (h : β → δ) (l : List β) :
    List.zipWith g (l.map f) (l.map h) = l.map (fun a => g (f a) (h a)) := by
  induction l with
  | nil => rfl
  | cons a l ih => simp only [List.map_cons, List.zipWith_cons_cons, ih]

theorem range_double {β : Type} (f : ℕ → β) (n : ℕ) :
    (List.range (n + n)).map f = (List.range n).map f ++ (List.range n).map (fun k => f (n + k)) := by
  rw [List.range_add, List.map_append, List.map_map]; rfl

/-- The network puts such truth values in order. -/
theorem bitonic_arc (k : ℕ) : ∀ (c : ℕ) (f : ℕ → Bool), Arc (2 ^ k) c f →
    bitonic or and k ((List.range (2 ^ k)).map f) = ones (2 ^ k) c := by
  induction k with
  | zero =>
    intro c f h
    show [f 0] = [decide (0 < c)]
    rcases h with ⟨a, b, hab, hb, hc, hf⟩ | ⟨a, b, hab, hb, hc, hf⟩ <;>
    · rw [hf 0 (by decide)]
      congr 1
      rw [decide_eq_decide]
      have : (2 : ℕ) ^ 0 = 1 := rfl
      omega
  | succ k ih =>
    intro c f h
    have e : 2 ^ (k + 1) = 2 ^ k + 2 ^ k := by rw [Nat.pow_succ]; omega
    rw [e] at h ⊢
    have hl : ((List.range (2 ^ k)).map f).length = 2 ^ k := by simp
    simp only [bitonic]
    rw [range_double, List.take_left' hl, List.drop_left' hl, zipWith_self, zipWith_self, ih _ _ h.or, ih _ _ h.and]
    unfold ones
    rw [range_double]
    congr 1 <;>
    · refine List.map_congr_left fun j hj => ?_
      have := List.mem_range.mp hj
      rw [decide_eq_decide]
      omega

theorem ones_reverse (n j : ℕ) : (ones n j).reverse = (List.range n).map (fun k => decide (n ≤ k + j)) := by
  unfold ones
  rw [← List.map_reverse, List.range_eq_range', List.reverse_range', List.map_map, ← List.range_eq_range']
  refine List.map_congr_left fun k hk => ?_
  have := List.mem_range.mp hk
  simp only [Function.comp, decide_eq_decide]
  omega

/-- Merging two ordered lists of truth values. -/
theorem mergeTop_ones (k i j : ℕ) (hi : i ≤ 2 ^ k) (hj : j ≤ 2 ^ k) :
    mergeTop or and k (ones (2 ^ k) i) (ones (2 ^ k) j) = ones (2 ^ k) (i + j) := by
  unfold mergeTop
  rw [ones_reverse]
  rw [ones, zipWith_self]
  by_cases h : i + j ≤ 2 ^ k
  · exact bitonic_arc k _ _ (.outer i (2 ^ k - j) (by omega) (by omega) (by omega) fun k hk => or_eq (by omega))
  · refine (bitonic_arc k (2 ^ k) _ (.outer (2 ^ k) (2 ^ k) (by omega) (by omega) (by omega) fun k hk => or_eq (by omega))).trans ?_
    refine List.map_congr_left fun k hk => ?_
    have := List.mem_range.mp hk
    rw [decide_eq_decide]
    omega

/-- A list of 64 holds the greatest of a collection, in order. -/
def TopList (c : α → ℕ) (l : List α) : Prop := ∀ t, ⊥ < t → l.map (fun a => decide (t ≤ a)) = ones 64 (c t)

theorem ones_min (i : ℕ) : ones 64 i = ones 64 (min 64 i) := by
  unfold ones
  refine List.map_congr_left fun k hk => ?_
  have := List.mem_range.mp hk
  simp only [decide_eq_decide]
  omega

/-- Merging the greatest of two collections gives the greatest of their union. -/
theorem TopList.merge {c c' : α → ℕ} {l l' : List α} (h : TopList c l) (h' : TopList c' l') :
    TopList (fun t => c t + c' t) (mergeTop max min 6 l l') := by
  intro t ht
  rw [mergeTop_map (fun a => decide (t ≤ a)) max min or and (fun a b => by simp [le_max_iff]) (fun a b => by simp [le_min_iff]),
    h t ht, h' t ht, ones_min (c t), ones_min (c' t), ones_min (c t + c' t),
    mergeTop_ones 6 (min 64 (c t)) (min 64 (c' t)) (by omega) (by omega), show (2 : ℕ) ^ 6 = 64 from rfl, ones_min]
  congr 1
  show min 64 (min 64 (c t) + min 64 (c' t)) = _
  omega

theorem TopList.congr_list {c : α → ℕ} {l l' : List α} (h : TopList c l) (e : l = l') : TopList c l' := e ▸ h

theorem TopList.congr {c c' : α → ℕ} {l : List α} (h : TopList c l) (e : ∀ t, c t = c' t) : TopList c' l := by
  rwa [show c' = c from funext fun t => (e t).symm]

/-- Entry by entry. -/
theorem TopList.iff [Nontrivial α] {c : α → ℕ} {l : List α} :
    TopList c l ↔ l.length = 64 ∧ ∀ (k : ℕ) (h : k < l.length), Top c k l[k] := by
  constructor
  · intro h
    have hl : l.length = 64 := by
      obtain ⟨t, ht⟩ := exists_ne (⊥ : α)
      have := congrArg List.length (h t (bot_lt_iff_ne_bot.mpr ht))
      simpa [ones] using this
    refine ⟨hl, fun k hk t ht => ?_⟩
    have := congrArg (fun l => l[k]?) (h t ht)
    simpa [ones, hk, List.getElem?_range (show k < 64 by omega)] using this
  · rintro ⟨hl, h⟩ t ht
    refine List.ext_getElem (by simp [ones, hl]) fun k h1 h2 => ?_
    simp only [ones, List.getElem_map, List.getElem_range, decide_eq_decide]
    exact h k (by simpa using h1) t ht

end Cert.TopK

end
-- ==== Proof.Score.lean ====
/-
  The scores, as functions of the four arguments.
-/
module

public import Idealize.ShloMosaic.Lib.Pointwise
public import Idealize.ShloMosaic.PureOps.Ideal

@[expose] public section

noncomputable section

namespace Cert.TopK

open Idealize.ShloMosaic

/-- The arguments: the queries, the codes, the scales and the zero points of the database. -/
structure Args where
  x : (⟨3, ![4, 256, 4096]⟩ : Shape).Idx → EReal
  codes : (⟨2, ![65536, 4096]⟩ : Shape).Idx → BitVec 8
  scales : (⟨1, ![65536]⟩ : Shape).Idx → EReal
  zeros : (⟨1, ![65536]⟩ : Shape).Idx → BitVec 32

/-- Component `k` of query `q`, the queries numbered from 0 to 1023. -/
def Args.query (A : Args) (q : Fin 1024) (k : Fin 4096) : EReal :=
  A.x (ix3 ⟨q.val / 256, by omega⟩ ⟨q.val % 256, by omega⟩ k)

/-- The score of database row `d` for query `q`: the product with the row's codes, less the query's sum times the row's
    zero point, times the row's scale. -/
def Args.score (A : Args) (q : Fin 1024) (d : Fin 65536) : EReal :=
  ((∑ k : Fin 4096, A.query q k * (((A.codes (ix2 d k)).toNat : ℝ) : EReal))
    - (∑ k : Fin 4096, A.query q k) * (((A.zeros (ix1 d)).toInt : ℝ) : EReal)) * A.scales (ix1 d)

/-- The same with the row given by any number, taken modulo 65536. -/
def Args.scoreN (A : Args) (q : Fin 1024) (n : ℕ) : EReal := A.score q ⟨n % 65536, Nat.mod_lt _ (by decide)⟩

/-- One if `t ≤ v`, else zero. -/
def ind (t v : EReal) : ℕ := if t ≤ v then 1 else 0

/-- How many of the scores of query `q` are at least `t`. -/
def Args.count (A : Args) (q : Fin 1024) (t : EReal) : ℕ := ∑ d : Fin 65536, ind t (A.score q d)

end Cert.TopK

end
-- ==== Proof.Columns.lean ====
/-
  The state read column by column. The 64 slots of a column hold, at each of the eight rows of a slot, the greatest
  scores met so far in order; inserting a tile keeps this.
-/
module

public import proofs.«01_k».proof.Proof.Step
public import proofs.«01_k».proof.Proof.Top
public import proofs.«01_k».proof.Proof.Score
public import Idealize.ShloMosaic.PureOps.Ideal
public import Idealize.ShloMosaic.Lib.Pipeline.Value
public import Mathlib.Algebra.BigOperators.Fin

@[expose] public section

set_option maxRecDepth 16384

noncomputable section

namespace Cert.KernelIdeal.Gen

open Idealize.ShloMosaic Idealize.ShloMosaic.TcCoe
open Cert.TopK Contents

/-- Row `r`, column `l` of a block of eight rows and 128 columns. -/
abbrev spot (r : Fin 8) (l : Fin 128) : S8x128.Idx := Shape.pair (d := ![8, 128]) r l

/-- Row `r` of slot `k`, column `l` of column group `t`. -/
def cell (t : Fin 8) (k : Fin 64) (r : Fin 8) (l : Fin 128) : S512x1024.Idx :=
  Shape.pair (d := ![512, 1024]) ⟨8 * k.val + r.val, by show _ < 512; omega⟩ ⟨128 * t.val + l.val, by show _ < 1024; omega⟩

/-- The offsets of the slots of column group `t`, slots `k` to `k + n - 1`. -/
def offs (t k n : ℕ) : List (Fin 2 → ℕ) := (List.range' k n).map fun k => ![8 * k, 128 * t]

theorem slots_offs (t : Fin k0_t1_loop.trips) : (slots t).map Subtype.val = offs t.val 0 64 := by
  revert t; decide +kernel

theorem lastSlots_offs (i : grid0.Coords) (h : k0_cond3 i = 1#1) (t : Fin k0_t3_loop.trips) :
    (lastSlots i h t).map Subtype.val = offs t.val 0 64 := by
  have : ∀ t : Fin k0_t3_loop.trips, ([k0_off68 t, k0_off69 t, k0_off70 t, k0_off71 t, k0_off72 t, k0_off73 t, k0_off74 t, k0_off75 t,
      k0_off76 t, k0_off77 t, k0_off78 t, k0_off79 t, k0_off80 t, k0_off81 t, k0_off82 t, k0_off83 t,
      k0_off84 t, k0_off85 t, k0_off86 t, k0_off87 t, k0_off88 t, k0_off89 t, k0_off90 t, k0_off91 t,
      k0_off92 t, k0_off93 t, k0_off94 t, k0_off95 t, k0_off96 t, k0_off97 t, k0_off98 t, k0_off99 t,
      k0_off100 t, k0_off101 t, k0_off102 t, k0_off103 t, k0_off104 t, k0_off105 t, k0_off106 t, k0_off107 t,
      k0_off108 t, k0_off109 t, k0_off110 t, k0_off111 t, k0_off112 t, k0_off113 t, k0_off114 t, k0_off115 t,
      k0_off116 t, k0_off117 t, k0_off118 t, k0_off119 t, k0_off120 t, k0_off121 t, k0_off122 t, k0_off123 t,
      k0_off124 t, k0_off125 t, k0_off126 t, k0_off127 t, k0_off128 t, k0_off129 t, k0_off130 t, k0_off131 t] : List (Fin 2 → ℕ))
      = offs t.val 0 64 := by decide +kernel
  exact this t

/-- A slot's tile read off the state. -/
theorem slotRead_apply {F : FTy → Type} (st : FVec F S512x1024 .f32) (o : SlotAt) (t : Fin 8) (k : Fin 64) (ho : o.1 = ![8 * k.val, 128 * t.val])
    (r : Fin 8) (l : Fin 128) : slotRead st o (spot r l) = st (cell t k r l) := by
  obtain ⟨o, ho'⟩ := o
  subst ho
  refine congrArg st (funext fun a => Fin.ext ?_)
  match a with
  | ⟨0, _⟩ => show 8 * k.val + 1 * r.val = 8 * k.val + r.val; omega
  | ⟨1, _⟩ => show 128 * t.val + 1 * l.val = 128 * t.val + l.val; omega

/-- A slot overwritten, read at its own cells. -/
theorem overlay_same {F : FTy → Type} (st : FVec F S512x1024 .f32) (w : FVec F S8x128 .f32) (o : SlotAt) (t : Fin 8) (k : Fin 64)
    (ho : o.1 = ![8 * k.val, 128 * t.val]) (r : Fin 8) (l : Fin 128) :
    (slotRect o).overlay st w (cell t k r l) = w (spot r l) := by
  obtain ⟨o, ho'⟩ := o
  subst ho
  refine overlay_mem st w (cell t k r l) (spot r l) fun a => ?_
  match a with
  | ⟨0, _⟩ => rfl
  | ⟨1, _⟩ => rfl

/-- A slot overwritten, read at the cells of another. -/
theorem overlay_other {F : FTy → Type} (st : FVec F S512x1024 .f32) (w : FVec F S8x128 .f32) (o : SlotAt) (t t' : Fin 8) (k : ℕ) (k' : Fin 64)
    (ho : o.1 = ![8 * k, 128 * t.val]) (r : Fin 8) (l : Fin 128) (h : t' ≠ t ∨ k'.val ≠ k) :
    (slotRect o).overlay st w (cell t' k' r l) = st (cell t' k' r l) := by
  obtain ⟨o, ho'⟩ := o
  subst ho
  rcases h with h | h
  · refine overlay_not_mem st w _ 1 ?_
    have := Fin.val_ne_of_ne h
    show 128 * t'.val + l.val < 128 * t.val ∨ 128 * t.val + 128 ≤ 128 * t'.val + l.val
    omega
  · refine overlay_not_mem st w _ 0 ?_
    show 8 * k'.val + r.val < 8 * k ∨ 8 * k + 8 ≤ 8 * k'.val + r.val
    omega

/-- The slots of row `r` and column `l` of group `t` hold the greatest of a collection. -/
def Col (c : EReal → ℕ) (st : FVec Ideal S512x1024 .f32) (t : Fin 8) (r : Fin 8) (l : Fin 128) : Prop :=
  ∀ k : Fin 64, Top c k.val (st (cell t k r l) : EReal)

/-- A tile inserted in slots `k`, …: those slots take it up, the others stay. -/
theorem inserted_from (t : Fin 8) (n : ℕ) : ∀ (k : ℕ) (os : List SlotAt) (_ : os.map Subtype.val = offs t.val k n) (_ : k + n ≤ 64)
    (v : FVec Ideal S8x128 .f32) (st : FVec Ideal S512x1024 .f32) (t' : Fin 8) (k' : Fin 64) (r : Fin 8) (l : Fin 128),
    ((t' ≠ t ∨ k'.val < k ∨ k + n ≤ k'.val) → inserted os v st (cell t' k' r l) = st (cell t' k' r l))
    ∧ ∀ (c : EReal → ℕ) (v₀ : EReal), Carried c v₀ k (v (spot r l) : EReal) →
      (∀ j : Fin 64, k ≤ j.val → Top c j.val (st (cell t j r l) : EReal)) → k ≤ k'.val → k'.val < k + n →
      Top (add c v₀) k'.val (inserted os v st (cell t k' r l) : EReal) := by
  induction n with
  | zero =>
    intro k os hos hk v st t' k' r l
    have : os = [] := List.map_eq_nil_iff.mp hos
    subst this
    exact ⟨fun _ => rfl, fun _ _ _ _ h h' => absurd h' (by omega)⟩
  | succ n ih =>
    intro k os hos hk v st t' k' r l
    match os, hos with
    | o :: os, hos =>
      have ho : o.1 = ![8 * k, 128 * t.val] := by
        have := List.head_eq_of_cons_eq hos
        exact this
      have hos' : os.map Subtype.val = offs t.val (k + 1) n := List.tail_eq_of_cons_eq hos
      have hk64 : k < 64 := by omega
      have hw : (shapeCast S8x128 (maximumf (slotRead st o) v) shapeCasts_S8x128_S8x128) = (maximumf (slotRead st o) v) := by
        exact shapeCast_self _ _
      unfold inserted
      rw [hw]
      have IH := fun t' k' => ih (k + 1) os hos' (by omega) (minimumf (slotRead st o) v) ((slotRect o).overlay st (maximumf (slotRead st o) v)) t' k' r l
      refine ⟨fun h => ?_, fun c v₀ hv hc h1 h2 => ?_⟩
      · rw [(IH t' k').1 (by omega), overlay_other st _ o t t' k k' ho r l (by omega)]
      · have hr := slotRead_apply st o t ⟨k, hk64⟩ ho r l
        have hmx : (maximumf (slotRead st o) v) (spot r l) = max (st (cell t ⟨k, hk64⟩ r l) : EReal) (v (spot r l) : EReal) := by
          rw [← hr]; rfl
        have hmn : (minimumf (slotRead st o) v) (spot r l) = min (st (cell t ⟨k, hk64⟩ r l) : EReal) (v (spot r l) : EReal) := by
          rw [← hr]; rfl
        by_cases hkk : k'.val = k
        · rw [(IH t k').1 (by omega)]
          obtain rfl : k' = ⟨k, hk64⟩ := Fin.ext hkk
          rw [overlay_same st _ o t ⟨k, hk64⟩ ho r l, hmx]
          exact (hc _ le_rfl).insert hv
        · refine (IH t k').2 c v₀ (hmn ▸ hv.step (hc ⟨k, hk64⟩ le_rfl)) (fun j hj => ?_) (by omega) (by omega)
          rw [overlay_other st _ o t t k j ho r l (by omega)]
          exact hc j (by omega)

/-- A tile inserted in the slots of group `t`: each row of each of its columns takes up its entry. -/
theorem inserted_col (t : Fin 8) (v : FVec Ideal S8x128 .f32) (st : FVec Ideal S512x1024 .f32) (r : Fin 8) (l : Fin 128)
    (c : EReal → ℕ) (h : Col c st t r l) : Col (add c (v (spot r l))) (inserted (slots t) v st) t r l := fun k =>
  (inserted_from t 64 0 (slots t) (slots_offs t) (by decide) v st t k r l).2 c _ (Carried.zero c _) (fun j _ => h j) (Nat.zero_le _)
    (by have := k.isLt; omega)

/-- The columns of the other groups stay. -/
theorem inserted_col_ne (t t' : Fin 8) (ht : t' ≠ t) (v : FVec Ideal S8x128 .f32) (st : FVec Ideal S512x1024 .f32) (r : Fin 8) (l : Fin 128)
    (c : EReal → ℕ) (h : Col c st t' r l) : Col c (inserted (slots t) v st) t' r l := fun k => by
  rw [(inserted_from t 64 0 (slots t) (slots_offs t) (by decide) v st t' k r l).1 (.inl ht)]
  exact h k

/-- Several tiles inserted in the slots of group `t`. -/
theorem fold_col (t : Fin 8) (S : Fin 128 → FVec Ideal S8x128 .f32) (r : Fin 8) (l : Fin 128) (us : List (Fin 128)) :
    ∀ (c : EReal → ℕ) (st : FVec Ideal S512x1024 .f32), Col c st t r l →
      Col (fun x => c x + (us.map fun u => ind x (S u (spot r l))).sum) (us.foldl (fun st u => inserted (slots t) (S u) st) st) t r l := by
  induction us with
  | nil => exact fun c st h => h
  | cons u us ih =>
    intro c st h
    have := ih _ _ (inserted_col t (S u) st r l c h)
    refine fun k => (this k).congr fun x _ => ?_
    simp only [List.map_cons, List.sum_cons, add, ind]
    omega

theorem fold_col_ne (t t' : Fin 8) (ht : t' ≠ t) (S : Fin 128 → FVec Ideal S8x128 .f32) (r : Fin 8) (l : Fin 128) (us : List (Fin 128)) :
    ∀ (c : EReal → ℕ) (st : FVec Ideal S512x1024 .f32), Col c st t' r l →
      Col c (us.foldl (fun st u => inserted (slots t) (S u) st) st) t' r l := by
  induction us with
  | nil => exact fun c st h => h
  | cons u us ih => exact fun c st h => ih c _ (inserted_col_ne t t' ht (S u) st r l c h)

theorem folds_col (t₀ : Fin 8) (S : Fin 8 → Fin 128 → FVec Ideal S8x128 .f32) (r : Fin 8) (l : Fin 128) (ts : List (Fin 8)) :
    ts.Nodup → ∀ (c : EReal → ℕ) (st : FVec Ideal S512x1024 .f32), Col c st t₀ r l →
      Col (fun x => c x + if t₀ ∈ ts then ((List.finRange 128).map fun u => ind x (S t₀ u (spot r l))).sum else 0)
        (ts.foldl (fun st (t : Fin 8) => (List.finRange 128).foldl (fun st u => inserted (slots t) (S t u) st) st) st) t₀ r l := by
  induction ts with
  | nil => exact fun _ c st h => h
  | cons t ts ih =>
    intro hn c st h
    obtain ⟨hn1, hn2⟩ := List.nodup_cons.mp hn
    rw [List.foldl_cons]
    by_cases ht : t₀ = t
    · subst ht
      refine fun k => (ih hn2 _ _ (fold_col t₀ (S t₀) r l _ c st h) k).congr fun x _ => ?_
      simp [hn1]
    · refine fun k => (ih hn2 _ _ (fold_col_ne t t₀ ht (S t) r l _ c st h) k).congr fun x _ => ?_
      simp [ht]

/-- The state after a tile of 1024 database rows: row `r` of the columns takes up the scores of the rows `8 u + r`. -/
theorem tileState_col (S : Fin 8 → Fin 128 → FVec Ideal S8x128 .f32) (st : FVec Ideal S512x1024 .f32) (t : Fin 8) (r : Fin 8) (l : Fin 128)
    (c : EReal → ℕ) (h : Col c st t r l) :
    Col (fun x => c x + ∑ u : Fin 128, ind x (S t u (spot r l))) (tileState S st) t r l := by
  refine fun k => (folds_col t S r l (List.finRange 8) (List.nodup_finRange 8) c st h k).congr fun x _ => ?_
  rw [if_pos (List.mem_finRange t), Fin.sum_univ_def]

end Cert.KernelIdeal.Gen

end
-- ==== Proof.Scores.lean ====
/-
  The scores the kernel inserts, element by element, at the ideal values.
-/
module

public import proofs.«01_k».proof.Proof.Columns
public import proofs.«01_k».proof.Proof.Launch
public import proofs.«01_k».proof.Proof.Score
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe
open Cert.TopK Contents

theorem product_apply (c : Vec Ideal S1024x4096 .i8) (x : Vec Ideal S1024x4096 .bf16) (d q : Fin 1024) :
    (k0_pay1 (k0_pay1668 c x) : FVec Ideal S1024x1024 .f32) (ix2 d q)
      = ∑ k : Fin 4096, (((c (ix2 d k)).toNat : ℝ) : EReal) * x (ix2 q k) := by
  pointwise [k0_pay1, k0_pay1668]
  rfl

theorem sums_apply (x : Vec Ideal S1024x4096 .bf16) (r : Fin 8) (q : Fin 1024) :
    (k0_pay1649 x : FVec Ideal S8x1024 .f32) (ix2 r q) = ∑ k : Fin 4096, (x (ix2 q k) : EReal) := by
  pointwise [k0_pay1649]

theorem zeros_apply (z : Vec Ideal S1x128 .i32) (d l : Fin 128) :
    (k0_pay1650 z : FVec Ideal S128x128 .f32) (ix2 d l) = (((z (ix2 0 d)).toInt : ℝ) : EReal) := by
  pointwise [k0_pay1650]
  rfl

theorem scales_apply (z : Vec Ideal S1x128 .f32) (d l : Fin 128) :
    (k0_pay1651 z : FVec Ideal S128x128 .f32) (ix2 d l) = z (ix2 0 d) := by
  pointwise [k0_pay1651]

theorem clear_apply (j : S512x1024.Idx) : (k0_pay1648 : FVec Ideal S512x1024 .f32) j = (⊥ : EReal) := by
  pointwise [k0_pay1648]
  simp [Ideal.ofBits, Ideal.ieee]

variable (m : (ℓ : Loc nD τ sig) → Buf (Elt Ideal) ℓ) (c : Dev nD)

/-- The kernel's arguments as launched. -/
def args : Args where
  x := m ((c : Thread nD τ).loc main_arg0)
  codes := m ((c : Thread nD τ).loc main_arg1)
  scales := m ((c : Thread nD τ).loc main_arg2)
  zeros := m ((c : Thread nD τ).loc main_arg3)

theorem entry_x : V m c main_v0 = shapeCast S1024x4096 (m ((c : Thread nD τ).loc main_arg0)) shapeCasts_S4x256x4096_S1024x4096 := by
  entry_read
  rfl

theorem entry_scale : V m c main_v1 = shapeCast S512x128 (m ((c : Thread nD τ).loc main_arg2)) shapeCasts_S65536_S512x128 := by
  entry_read
  rfl

theorem entry_zero : V m c main_v2 = shapeCast S512x128 (m ((c : Thread nD τ).loc main_arg3)) shapeCasts_S65536_S512x128 := by
  entry_read
  rfl

theorem index_x : ∀ t : Fin cfg0.N, win0_0.index t 0 = 0 ∧ win0_0.index t 1 = 0 := by decide +kernel
theorem index_codes : ∀ t : Fin cfg0.N, win0_1.index t 0 = t.val ∧ win0_1.index t 1 = 0 := by decide +kernel
theorem index_scale : ∀ t : Fin cfg0.N, win0_2.index t 0 = t.val ∧ win0_2.index t 1 = 0 := by decide +kernel
theorem index_zero : ∀ t : Fin cfg0.N, win0_3.index t 0 = t.val ∧ win0_3.index t 1 = 0 := by decide +kernel

theorem reshape_x (X : S4x256x4096.Idx → EReal) (q : Fin 1024) (k : Fin 4096) :
    shapeCast S1024x4096 X shapeCasts_S4x256x4096_S1024x4096 (ix2 q k) = X (ix3 ⟨q.val / 256, by omega⟩ ⟨q.val % 256, by omega⟩ k) := by
  refine shapeCast_apply X _ _ _ ?_
  rw [Shape.rowMajor_val_two, Shape.rowMajor_val_three]
  show (q.val / 256 * 256 + q.val % 256) * 4096 + k.val = q.val * 4096 + k.val
  omega

theorem block_x (t : Fin cfg0.N) (q : Fin 1024) (k : Fin 4096) :
    (iblk m c 0 t : S1024x4096.Idx → EReal) (ix2 q k) = (args m c).query q k := by
  show V m c main_v0 (((cfg0.win 0).blk t).view.emb _) = _
  rw [entry_x]
  rw [show ((cfg0.win 0).blk t).view.emb (ix2 q k) = (ix2 q k : S1024x4096.Idx) from by blk_ext [index_x t]]
  exact reshape_x _ q k

theorem block_codes (t : Fin cfg0.N) (d : Fin 1024) (k : Fin 4096) :
    (iblk m c 1 t : S1024x4096.Idx → BitVec 8) (ix2 d k)
      = (args m c).codes (ix2 ⟨1024 * t.val + d.val, by have := t.isLt; have : cfg0.N = 64 := rfl; omega⟩ k) := by
  unfold args
  blk_ext [iblk, V, index_codes t]

theorem block_scale (t : Fin cfg0.N) (i : Fin 8) (j : Fin 128) :
    (iblk m c 2 t : S8x128.Idx → EReal) (ix2 i j)
      = (args m c).scales (ix1 ⟨1024 * t.val + 128 * i.val + j.val, by have := t.isLt; have : cfg0.N = 64 := rfl; omega⟩) := by
  show V m c main_v1 (((cfg0.win 2).blk t).view.emb _) = _
  rw [entry_scale]
  unfold args
  pointwise
  blk_ext [index_scale t]

theorem block_zero (t : Fin cfg0.N) (i : Fin 8) (j : Fin 128) :
    (iblk m c 3 t : S8x128.Idx → BitVec 32) (ix2 i j)
      = (args m c).zeros (ix1 ⟨1024 * t.val + 128 * i.val + j.val, by have := t.isLt; have : cfg0.N = 64 := rfl; omega⟩) := by
  show V m c main_v2 (((cfg0.win 3).blk t).view.emb _) = _
  rw [entry_zero]
  unfold args
  pointwise
  blk_ext [index_zero t]

/-- The offsets of the tiles the insertion reads. -/
theorem off1_eq (t : Fin k0_t1_loop.trips) : k0_off1 t = ![0, 128 * t.val] := by revert t; decide +kernel
theorem off2_eq : ∀ (t : Fin k0_t1_loop.trips) (u : Fin k0_t2_loop.trips), k0_off2 t u = ![8 * u.val, 128 * t.val] := by decide +kernel
theorem off3_eq (u : Fin k0_t2_loop.trips) : k0_off3 u = ![8 * u.val, 0] := by revert u; decide +kernel

/-- A tile read at an offset. -/
theorem tile_read {R N : ℕ} (X : (⟨2, ![R, N]⟩ : Shape).Idx → EReal) (off : Fin 2 → ℕ) (inb) (a b : ℕ) (ho : off = ![a, b]) (r : Fin 8) (l : Fin 128)
    (i : Fin R) (j : Fin N) (hi : i.val = a + r.val) (hj : j.val = b + l.val) :
    X ((Rect.unit (s := ⟨2, ![R, N]⟩) off ![8, 128] inb).emb (spot r l)) = X (ix2 i j) := by
  subst ho
  refine congrArg X (funext fun x => Fin.ext ?_)
  match x with
  | ⟨0, _⟩ => show a + 1 * r.val = i.val; omega
  | ⟨1, _⟩ => show b + 1 * l.val = j.val; omega

/-- Row `d` of the buffers of zero points and of scales. -/
theorem zbOf_apply (z : Vec Ideal S8x128 .i32) (d : Fin 1024) (l : Fin 128) :
    (zbOf z : FVec Ideal S1024x128 .f32) (ix2 d l) = (((z (ix2 ⟨d.val / 128, by omega⟩ ⟨d.val % 128, by omega⟩)).toInt : ℝ) : EReal) := by
  have e : (placeOf (ix2 d l : S1024x128.Idx)) = ix2 ⟨d.val % 128, by omega⟩ l := by
    funext a
    match a with
    | ⟨0, _⟩ => rfl
    | ⟨1, _⟩ => rfl
  unfold zbOf
  rw [e, zeros_apply]
  refine congrArg (fun w : BitVec 32 => ((w.toInt : ℝ) : EReal)) (congrArg z (funext fun a => Fin.ext ?_))
  match a with
  | ⟨0, _⟩ => show d.val / 128 + 1 * 0 = d.val / 128; omega
  | ⟨1, _⟩ => show 0 + 1 * (d.val % 128) = d.val % 128; omega

theorem sbOf_apply (z : Vec Ideal S8x128 .f32) (d : Fin 1024) (l : Fin 128) :
    (sbOf z : FVec Ideal S1024x128 .f32) (ix2 d l) = z (ix2 ⟨d.val / 128, by omega⟩ ⟨d.val % 128, by omega⟩) := by
  have e : (placeOf (ix2 d l : S1024x128.Idx)) = ix2 ⟨d.val % 128, by omega⟩ l := by
    funext a
    match a with
    | ⟨0, _⟩ => rfl
    | ⟨1, _⟩ => rfl
  unfold sbOf
  rw [e, scales_apply]
  refine congrArg z (funext fun a => Fin.ext ?_)
  match a with
  | ⟨0, _⟩ => show d.val / 128 + 1 * 0 = d.val / 128; omega
  | ⟨1, _⟩ => show 0 + 1 * (d.val % 128) = d.val % 128; omega

/-- The sums of the queries, in every row. -/
def Summed (xs : FVec Ideal S8x1024 .f32) : Prop :=
  ∀ (r : Fin 8) (q : Fin 1024), xs (ix2 r q) = ∑ k : Fin 4096, (args m c).query q k

theorem sums_summed (t : Fin cfg0.N) : Summed m c (k0_pay1649 (iblk m c 0 t : Vec Ideal S1024x4096 .bf16)) := fun r q => by
  rw [sums_apply]
  exact Finset.sum_congr rfl fun k _ => block_x m c t q k

/-- The scores that step `n` inserts. -/
theorem scores_apply (n : Fin cfg0.N) (C : Contents Ideal) (hs : C.s = k0_pay1 (k0_pay1668 (iblk m c 1 n : Vec Ideal S1024x4096 .i8) (iblk m c 0 n : Vec Ideal S1024x4096 .bf16)))
    (hxs : Summed m c C.xs) (hz : C.zb = zbOf (iblk m c 3 n : Vec Ideal S8x128 .i32)) (hb : C.sb = sbOf (iblk m c 2 n : Vec Ideal S8x128 .f32))
    (t : Fin 8) (u : Fin 128) (r : Fin 8) (l : Fin 128) :
    C.scores t u (spot r l) = (args m c).scoreN ⟨128 * t.val + l.val, by omega⟩ (1024 * n.val + 8 * u.val + r.val) := by
  have hn : n.val < 64 := n.isLt
  have e1 := tile_read (R := 8) (N := 1024) C.xs _ (k0_off1_inb t) 0 (128 * t.val) (off1_eq t) r l r ⟨128 * t.val + l.val, by omega⟩ (by omega) rfl
  have e2 := tile_read (R := 1024) (N := 1024) C.s _ (k0_off2_inb t u) (8 * u.val) (128 * t.val) (off2_eq t u) r l ⟨8 * u.val + r.val, by omega⟩ ⟨128 * t.val + l.val, by omega⟩ rfl rfl
  have e3 := tile_read (R := 1024) (N := 128) C.zb _ (k0_off3_inb u) (8 * u.val) 0 (off3_eq u) r l ⟨8 * u.val + r.val, by omega⟩ l rfl (by omega)
  have e4 := tile_read (R := 1024) (N := 128) C.sb _ (k0_off3_inb u) (8 * u.val) 0 (off3_eq u) r l ⟨8 * u.val + r.val, by omega⟩ l rfl (by omega)
  show (C.s _ - C.xs _ * C.zb _ : EReal) * C.sb _ = _
  refine (congrArg₂ (· * ·) (congrArg₂ (· - ·) e2 (congrArg₂ (· * ·) e1 e3)) e4).trans ?_
  rw [hxs, hs, hz, hb, product_apply, zbOf_apply, sbOf_apply, block_zero, block_scale]
  unfold Args.scoreN Args.score
  have ed : (1024 * n.val + 8 * u.val + r.val) % 65536 = 1024 * n.val + (8 * u.val + r.val) := by omega
  have ei : (⟨1024 * n.val + 128 * ((8 * u.val + r.val) / 128) + (8 * u.val + r.val) % 128, by omega⟩ : Fin 65536)
      = ⟨(1024 * n.val + 8 * u.val + r.val) % 65536, Nat.mod_lt _ (by decide)⟩ := Fin.ext (by dsimp only; omega)
  rw [ei]
  refine congrArg₂ (· * ·) (congrArg₂ (· - ·) (Finset.sum_congr rfl fun k _ => ?_) rfl) rfl
  rw [block_x, block_codes, mul_comm]
  congr 7
  dsimp only
  omega

end Cert.KernelIdeal.Gen

end
-- ==== Proof.Merge.lean ====
/-
  The last step: the eight rows of a column's slots merged, and the result read off them.
-/
module

public import proofs.«01_k».proof.Proof.Columns
public import Idealize.ShloMosaic.Lib.KernelVsHost
public import Idealize.ShloMosaic.Lib.Pointwise

@[expose] public section

set_option maxRecDepth 16384

noncomputable section

namespace Cert.KernelIdeal.Gen

open Idealize.ShloMosaic Idealize.ShloMosaic.TcCoe
open Cert.TopK Contents

/-- A rolled tile at row `r` is the tile at the row `n` above, round the eight rows. -/
theorem roll_apply (n : Fin 8) (v : FVec Ideal S8x128 .f32) (r : Fin 8) (l : Fin 128) :
    roll (BitVec.ofNat 32 n.val) v (spot r l) = v (spot (r - n) l) := by
  refine dynamicRotate_apply 0 _ v _ _ _ fun b => ?_
  have hn : (BitVec.ofNat 32 n.val).toNat = n.val := by
    rw [BitVec.toNat_ofNat]; exact Nat.mod_eq_of_lt (by have := n.isLt; omega)
  match b with
  | ⟨0, _⟩ =>
    refine (if_pos rfl).symm ▸ ?_
    rw [hn]
    show ((r - n : Fin 8)).val = (r.val + 8 - n.val % 8) % 8
    rw [Fin.sub_def]
    show (8 - n.val + r.val) % 8 = _
    have := n.isLt
    congr 1
    omega
  | ⟨1, _⟩ => exact (if_neg (show ¬ (1 : Fin 2) = 0 by decide)).symm

/-- What each row of a list of tiles holds. -/
def Rows (c : Fin 8 → EReal → ℕ) (L : List (FVec Ideal S8x128 .f32)) (l : Fin 128) : Prop :=
  ∀ r : Fin 8, TopList (c r) (L.map fun v => (v (spot r l) : EReal))

theorem mergeRoll_rows (n : Fin 8) (c : Fin 8 → EReal → ℕ) (L : List (FVec Ideal S8x128 .f32)) (l : Fin 128) (h : Rows c L l) :
    Rows (fun r t => c r t + c (r - n) t) (mergeRoll (BitVec.ofNat 32 n.val) L) l := by
  intro r
  have := (h r).merge (h (r - n))
  refine this.congr_list ?_
  unfold mergeRoll
  rw [mergeTop_map (fun v : FVec Ideal S8x128 .f32 => (v (spot r l) : EReal)) maximumf minimumf max min (fun _ _ => rfl) (fun _ _ => rfl),
    List.map_map]
  congr 1
  exact List.map_congr_left fun v _ => (roll_apply n v r l).symm

/-- After the three merges every row holds the greatest of all eight. -/
theorem mergeSublanes_rows (c : Fin 8 → EReal → ℕ) (L : List (FVec Ideal S8x128 .f32)) (l : Fin 128) (h : Rows c L l) :
    Rows (fun _ t => ∑ r, c r t) (mergeSublanes L) l := by
  have := mergeRoll_rows 1 _ _ l (mergeRoll_rows 2 _ _ l (mergeRoll_rows 4 _ _ l h))
  refine fun r => (this r).congr fun t => ?_
  simp only [Fin.sum_univ_eight]
  revert r
  have key : ∀ f : Fin 8 → ℕ, ∀ r : Fin 8, f r + f (r - 4) + (f (r - 2) + f (r - 2 - 4)) + (f (r - 1) + f (r - 1 - 4) + (f (r - 1 - 2) + f (r - 1 - 2 - 4)))
      = f 0 + f 1 + f 2 + f 3 + f 4 + f 5 + f 6 + f 7 := by
    intro f r
    match r with
    | 0 => show f 0 + f 4 + (f 6 + f 2) + (f 7 + f 3 + (f 5 + f 1)) = _; omega
    | 1 => show f 1 + f 5 + (f 7 + f 3) + (f 0 + f 4 + (f 6 + f 2)) = _; omega
    | 2 => show f 2 + f 6 + (f 0 + f 4) + (f 1 + f 5 + (f 7 + f 3)) = _; omega
    | 3 => show f 3 + f 7 + (f 1 + f 5) + (f 2 + f 6 + (f 0 + f 4)) = _; omega
    | 4 => show f 4 + f 0 + (f 2 + f 6) + (f 3 + f 7 + (f 1 + f 5)) = _; omega
    | 5 => show f 5 + f 1 + (f 3 + f 7) + (f 4 + f 0 + (f 2 + f 6)) = _; omega
    | 6 => show f 6 + f 2 + (f 4 + f 0) + (f 5 + f 1 + (f 3 + f 7)) = _; omega
    | 7 => show f 7 + f 3 + (f 5 + f 1) + (f 6 + f 2 + (f 4 + f 0)) = _; omega
  exact fun r => key (fun r => c r t) r

theorem pick_apply (L : List (FVec Ideal S8x128 .f32)) (g : ℕ) (r : Fin 8) (l : Fin 128) :
    ∀ n : ℕ, r.val ≤ n → n < 8 → pick L g n (spot r l) = nth L (8 * g + r.val) (spot r l) := by
  intro n
  induction n with
  | zero => intro h _; rw [show r.val = 0 by omega]; rfl
  | succ n ih =>
    intro h hn
    unfold pick
    pointwise
    by_cases e : r.val = n + 1
    · rw [show BitVec.ofNat 32 (spot r l 0).val = BitVec.ofNat 32 (n + 1) from congrArg _ e, e]
      exact if_pos (by simp [IntOp.cmpi])
    · refine (if_neg ?_).trans (ih (by omega) (by omega))
      have : BitVec.ofNat 32 (spot r l 0).val ≠ BitVec.ofNat 32 (n + 1) := by
        intro hh
        have := congrArg BitVec.toNat hh
        rw [BitVec.toNat_ofNat, BitVec.toNat_ofNat] at this
        have h0 : (spot r l 0).val = r.val := rfl
        have := r.isLt
        omega
      show ¬ BitVec.ofBool (BitVec.ofNat 32 (spot r l 0).val == BitVec.ofNat 32 (n + 1)) = 1#1
      rw [beq_eq_false_iff_ne.mpr this]
      decide

theorem pick_eq (L : List (FVec Ideal S8x128 .f32)) (q : Fin 128) (k : Fin 64) (g m : ℕ) (hm : m < 8) (h : k.val = 8 * g + m)
    (j : S8x128.Idx) (h0 : (j 0).val = m) (h1 : (j 1).val = q.val) :
    pick L g 7 j = nth L k.val (spot ⟨k.val % 8, Nat.mod_lt _ (by decide)⟩ q) := by
  have e : j = spot ⟨m, hm⟩ q := by
    funext a
    match a with
    | ⟨0, _⟩ => exact Fin.ext h0
    | ⟨1, _⟩ => exact Fin.ext h1
  have e' : (⟨k.val % 8, Nat.mod_lt _ (by decide)⟩ : Fin 8) = ⟨m, hm⟩ := Fin.ext (show k.val % 8 = m by omega)
  rw [e, e', pick_apply L g ⟨m, hm⟩ q 7 (by show m ≤ 7; omega) (by decide)]
  exact congrArg (fun k => nth L k (spot ⟨m, hm⟩ q)) h.symm

/-- The result block at query row `q`, entry `k`. -/
theorem resultOf_apply (L : List (FVec Ideal S8x128 .f32)) (q : Fin 128) (k : Fin 64) :
    resultOf L (Shape.pair (d := ![128, 64]) q k) = nth L k.val (spot ⟨k.val % 8, Nat.mod_lt _ (by decide)⟩ q) := by
  unfold resultOf
  pointwise
  have hk : (Shape.pair (d := ![128, 64]) q k 1).val = k.val := rfl
  have hk' := k.isLt
  split
  · exact pick_eq L q k 0 k.val (by omega) (by omega) _ rfl rfl
  split
  · exact pick_eq L q k 1 (k.val - 8) (by omega) (by omega) _ rfl rfl
  split
  · exact pick_eq L q k 2 (k.val - 8 - 8) (by omega) (by omega) _ rfl rfl
  split
  · exact pick_eq L q k 3 (k.val - 8 - 8 - 8) (by omega) (by omega) _ rfl rfl
  split
  · exact pick_eq L q k 4 (k.val - 8 - 8 - 8 - 8) (by omega) (by omega) _ rfl rfl
  split
  · exact pick_eq L q k 5 (k.val - 8 - 8 - 8 - 8 - 8) (by omega) (by omega) _ rfl rfl
  split
  · exact pick_eq L q k 6 (k.val - 8 - 8 - 8 - 8 - 8 - 8) (by omega) (by omega) _ rfl rfl
  · exact pick_eq L q k 7 (k.val - 8 - 8 - 8 - 8 - 8 - 8 - 8) (by omega) (by omega) _ rfl rfl

/-- The result block of a column group, from the state: if row `r` of column `q` holds the greatest of a collection for each
    of the eight rows, entry `k` is the `k`-th greatest of all. -/
theorem result_top (i : grid0.Coords) (h : k0_cond3 i = 1#1) (st : FVec Ideal S512x1024 .f32) (t : Fin k0_t3_loop.trips)
    (t' : Fin 8) (ht : t'.val = t.val) (q : Fin 128) (k : Fin 64) (c : Fin 8 → EReal → ℕ) (hc : ∀ r, Col (c r) st t' r q) :
    Top (fun x => ∑ r, c r x) k.val
      (resultOf (mergeSublanes ((lastSlots i h t).map (slotRead st))) (Shape.pair (d := ![128, 64]) q k) : EReal) := by
  have hl : (lastSlots i h t).length = 64 := rfl
  have ho : ∀ (j : ℕ) (hj : j < 64), ((lastSlots i h t)[j]).1 = ![8 * j, 128 * t.val] := by
    intro j hj
    have := congrArg (fun l => l[j]?) (lastSlots_offs i h t)
    rw [List.getElem?_map, List.getElem?_eq_getElem (by rw [hl]; exact hj)] at this
    have e : (offs t.val 0 64)[j]? = some ![8 * j, 128 * t.val] := by simp [offs, hj]
    exact Option.some.inj (this.trans e)
  have rows : Rows c ((lastSlots i h t).map (slotRead st)) q := by
    intro r
    refine TopList.iff.mpr ⟨by simp [hl], fun j hj => ?_⟩
    have hj' : j < 64 := by simpa [hl] using hj
    rw [List.getElem_map, List.getElem_map, slotRead_apply st _ t' ⟨j, hj'⟩ (by rw [ht]; exact ho j hj') r q]
    exact hc r ⟨j, hj'⟩
  have := TopList.iff.mp (mergeSublanes_rows c _ q rows ⟨k.val % 8, Nat.mod_lt _ (by decide)⟩)
  rw [resultOf_apply]
  generalize mergeSublanes ((lastSlots i h t).map (slotRead st)) = L at this ⊢
  obtain ⟨h1, h2⟩ := this
  have hk : k.val < L.length := by have := k.isLt; rw [List.length_map] at h1; omega
  have := h2 k.val (by simpa using hk)
  rw [List.getElem_map] at this
  have e : nth L k.val = L[k.val] := by unfold nth; simp [hk]
  rw [e]
  exact this

end Cert.KernelIdeal.Gen

end
-- ==== Proof.Value.lean ====
/-
  The result of the launch: entry (q, k) is the entry of rank k, in descending order, of the scores of query q.
-/
module

public import proofs.«01_k».proof.Proof.Scores
public import proofs.«01_k».proof.Proof.Merge
public import proofs.«01_k».proof.Proof.Launch
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe
open Idealize.SL Idealize.SL.Sem
open Cert.TopK Contents

variable (m : (ℓ : Loc nD τ sig) → Buf (Elt Ideal) ℓ) (ρ : Dev nD → PrngReg) (c : Dev nD)

/-- How many of the scores of query `q` that the first `n` steps put in sublane `r` are at least `x`. -/
def seen (q : Fin 1024) (n : ℕ) (r : Fin 8) (x : EReal) : ℕ :=
  ∑ i ∈ Finset.range n, ∑ u : Fin 128, ind x ((args m c).scoreN q (1024 * i + 8 * u.val + r.val))

/-- After `n` steps the row sums are those of the queries, and the columns of the state hold the greatest scores seen. -/
def Good (n : ℕ) (C : Contents Ideal) : Prop :=
  Summed m c C.xs ∧ ∀ (t r : Fin 8) (l : Fin 128), Col (seen m c ⟨128 * t.val + l.val, by omega⟩ n r) C.state t r l

/-- Nothing has been seen: the cleared state. -/
theorem clear_col (t r : Fin 8) (l : Fin 128) (q : Fin 1024) : Col (seen m c q 0 r) (k0_pay1648 (F := Ideal)) t r l := by
  intro k x hx
  rw [clear_apply]
  simp only [seen, Finset.range_zero, Finset.sum_empty, Nat.not_lt_zero, iff_false, not_le]
  exact hx

theorem seen_succ (q : Fin 1024) (n : ℕ) (r : Fin 8) (x : EReal) : seen m c q (n + 1) r x
    = seen m c q n r x + ∑ u : Fin 128, ind x ((args m c).scoreN q (1024 * n + 8 * u.val + r.val)) := Finset.sum_range_succ _ _

/-- The insertion of a step's scores. -/
theorem insert_col (n : Fin cfg0.N) (C : Contents Ideal)
    (hs : C.s = k0_pay1 (k0_pay1668 (iblk m c 1 n : Vec Ideal S1024x4096 .i8) (iblk m c 0 n : Vec Ideal S1024x4096 .bf16)))
    (hxs : Summed m c C.xs) (hz : C.zb = zbOf (iblk m c 3 n : Vec Ideal S8x128 .i32)) (hb : C.sb = sbOf (iblk m c 2 n : Vec Ideal S8x128 .f32))
    (t r : Fin 8) (l : Fin 128) (h : Col (seen m c ⟨128 * t.val + l.val, by omega⟩ n.val r) C.state t r l) :
    Col (seen m c ⟨128 * t.val + l.val, by omega⟩ (n.val + 1) r) (tileState C.scores C.state) t r l := by
  have e : ∀ x u, ind x (C.scores t u (spot r l)) = ind x ((args m c).scoreN ⟨128 * t.val + l.val, by omega⟩ (1024 * n.val + 8 * u.val + r.val)) :=
    fun x u => congrArg (ind x) (scores_apply m c n C hs hxs hz hb t u r l)
  have h2 := tileState_col C.scores C.state t r l _ h
  intro k
  refine (h2 k).congr fun x _ => ?_
  rw [seen_succ]
  exact congrArg (seen m c ⟨128 * t.val + l.val, by omega⟩ n.val r x + ·) (Finset.sum_congr rfl fun u _ => e x u)

/-- The insertion and the last step, from prepared contents. -/
theorem finish_good (n : Fin cfg0.N) (P : Contents Ideal)
    (hs : P.s = k0_pay1 (k0_pay1668 (iblk m c 1 n : Vec Ideal S1024x4096 .i8) (iblk m c 0 n : Vec Ideal S1024x4096 .bf16)))
    (hxs : Summed m c P.xs) (hz : P.zb = zbOf (iblk m c 3 n : Vec Ideal S8x128 .i32)) (hb : P.sb = sbOf (iblk m c 2 n : Vec Ideal S8x128 .f32))
    (h : ∀ (t r : Fin 8) (l : Fin 128), Col (seen m c ⟨128 * t.val + l.val, by omega⟩ n.val r) P.state t r l) :
    Good m c (n.val + 1) ((P.insertTile).finished (grid0.coords n))
      ∧ ∀ h3 : k0_cond3 (grid0.coords n) = 1#1, ((P.insertTile).finished (grid0.coords n)).out
          = Contents.outOf (grid0.coords n) h3 ((P.insertTile).finished (grid0.coords n)).state := by
  have hi : Good m c (n.val + 1) P.insertTile := by
    rw [Contents.insertTile_eq]
    exact ⟨hxs, fun t r l => insert_col m c n P hs hxs hz hb t r l (h t r l)⟩
  generalize P.insertTile = Q at hi ⊢
  by_cases h3 : k0_cond3 (grid0.coords n) = 1#1
  · rw [Contents.finished_eq _ h3]
    exact ⟨⟨hi.1, hi.2⟩, fun _ => rfl⟩
  · rw [Contents.unfinished_eq _ h3]
    exact ⟨hi, fun h => absurd h h3⟩

theorem of_ite {α : Type} (p : α → Prop) (P : Prop) [Decidable P] (a b : α) (h1 : P → p a) (h2 : ¬ P → p b) : p (if P then a else b) := by
  split
  · exact h1 ‹_›
  · exact h2 ‹_›

/-- A step keeps what the invariant says, and at the last step writes the result. -/
theorem step_good (n : Fin cfg0.N) (C : Contents Ideal) (h : n.val ≠ 0 → Good m c n.val C) :
    Good m c (n.val + 1) ((withInputs m c n C).step (grid0.coords n))
      ∧ ∀ h3 : k0_cond3 (grid0.coords n) = 1#1, ((withInputs m c n C).step (grid0.coords n)).out
          = Contents.outOf (grid0.coords n) h3 ((withInputs m c n C).step (grid0.coords n)).state := by
  have hp := Contents.prepared_eq (grid0.coords n) (withInputs m c n C)
  unfold Contents.step
  refine finish_good m c n _ (congrArg Contents.s hp) ?_ (congrArg Contents.zb hp) (congrArg Contents.sb hp) fun t r l => ?_
  · rw [congrArg Contents.xs hp]
    exact of_ite (Summed m c) _ _ _ (fun _ => sums_summed m c n) fun hf => (h fun e => hf ((first_iff n).mpr e)).1
  · rw [congrArg Contents.state hp]
    refine of_ite (fun st => Col _ st t r l) _ _ _ (fun hf => ?_) fun hf => (h fun e => hf ((first_iff n).mpr e)).2 t r l
    rw [(first_iff n).mp hf]
    exact clear_col m c t r l _

theorem carry_good (n : ℕ) (hn : n < cfg0.N) : Good m c (n + 1) (carry m c (n + 1)) := by
  induction n with
  | zero => rw [carry_succ m c ⟨0, hn⟩]; exact (step_good m c ⟨0, hn⟩ _ fun h => absurd rfl h).1
  | succ n ih => rw [carry_succ m c ⟨n + 1, hn⟩]; exact (step_good m c ⟨n + 1, hn⟩ _ fun _ => ih (by omega)).1

/-- The sublanes of all the steps make up the database. -/
theorem seen_all (q : Fin 1024) (x : EReal) : ∑ r, seen m c q 64 r x = (args m c).count q x := by
  have hd : (args m c).count q x = ∑ d ∈ Finset.range (64 * 1024), ind x ((args m c).scoreN q d) := by
    unfold Args.count
    rw [← Fin.sum_univ_eq_sum_range (fun d => ind x ((args m c).scoreN q d)) 65536]
    refine Finset.sum_congr rfl fun d _ => congrArg _ ?_
    unfold Args.scoreN
    exact congrArg _ (Fin.ext (Nat.mod_eq_of_lt d.isLt).symm)
  rw [hd, ← Finset.sum_range_range_mul_add]
  unfold seen
  rw [Finset.sum_comm]
  refine Finset.sum_congr rfl fun i _ => ?_
  rw [Finset.sum_comm, ← Fin.sum_univ_eq_sum_range (fun e => ind x ((args m c).scoreN q (i * 1024 + e))) 1024]
  refine Eq.trans ?_ (Fin.sum_univ_univ_mul_add 128 8 fun e => ind x ((args m c).scoreN q (i * 1024 + e)))
  refine Finset.sum_congr rfl fun u _ => Finset.sum_congr rfl fun r _ => congrArg (fun d => ind x ((args m c).scoreN q d)) ?_
  omega

/-- What step `n` writes as the result, if it is the last. -/
theorem carry_out (n : Fin cfg0.N) (h3 : k0_cond3 (grid0.coords n) = 1#1) :
    (carry m c (n.val + 1)).out = Contents.outOf (grid0.coords n) h3 (carry m c (n.val + 1)).state := by
  rw [carry_succ m c n]
  refine (step_good m c n _ fun h => ?_).2 h3
  obtain ⟨k, hk⟩ := Nat.exists_eq_succ_of_ne_zero h
  rw [hk]
  exact carry_good m c k (by have := n.isLt; omega)

/-- The result read off a state whose columns hold the greatest of everything seen. -/
theorem outOf_top (i : grid0.Coords) (h3 : k0_cond3 i = 1#1) (st : FVec Ideal S512x1024 .f32)
    (hg : ∀ (t r : Fin 8) (l : Fin 128), Col (seen m c ⟨128 * t.val + l.val, by omega⟩ 64 r) st t r l)
    (q : Fin 1024) (k : Fin 64) : Top ((args m c).count q) k.val (Contents.outOf i h3 st (ix2 q k) : EReal) := by
  have hp : Contents.placeOf (ix2 q k : S1024x64.Idx) = Shape.pair (d := ![128, 64]) (⟨q.val % 128, by omega⟩ : Fin 128) k := by
    funext a
    match a with
    | ⟨0, _⟩ => rfl
    | ⟨1, _⟩ => rfl
  have hq : (⟨128 * (q.val / 128) + q.val % 128, by omega⟩ : Fin 1024) = q := Fin.ext (by dsimp only; omega)
  unfold Contents.outOf
  rw [hp]
  refine (result_top i h3 st (Contents.blockOf (ix2 q k : S1024x64.Idx)) (⟨q.val / 128, by omega⟩ : Fin 8) rfl (⟨q.val % 128, by omega⟩ : Fin 128) k
    (fun r => seen m c ⟨128 * (q.val / 128) + q.val % 128, by omega⟩ 64 r)
    fun r => hg (⟨q.val / 128, by omega⟩ : Fin 8) r (⟨q.val % 128, by omega⟩ : Fin 128)).congr fun x _ => ?_
  rw [hq]
  exact seen_all m c q x

/-- The result is one block, written back after the last step. -/
theorem flush_last : ∀ t : Fin cfg0.N, (cfg0.win 4).flush t = true → t = ⟨63, by decide⟩ := by decide +kernel
theorem index_out : ∀ t : Fin cfg0.N, win0_4.index t 0 = 0 ∧ win0_4.index t 1 = 0 := by decide +kernel

theorem emb_out (t : Fin cfg0.N) (y : S1024x64.Idx) : (win0_4.blk t).view.emb y = y := by
  funext a
  refine Fin.ext ?_
  have h := index_out t
  match a with
  | ⟨0, _⟩ =>
    blk_simp
    show win0_4.index t 0 * 1024 + (y 0).val = (y 0).val
    rw [h.1]; omega
  | ⟨1, _⟩ =>
    blk_simp
    show win0_4.index t 1 * 64 + (y 1).val = (y 1).val
    rw [h.2]; omega

/-- The result array of the launch. -/
theorem array_top (q : Fin 1024) (k : Fin 64) : Top ((args m c).count q) k.val ((dats m 0 c).arrAt 4 cfg0.N (ix2 q k) : EReal) := by
  have hl : (63 : ℕ) < cfg0.N := by decide
  have h3 : k0_cond3 (grid0.coords ⟨63, hl⟩) = 1#1 := (last_iff ⟨63, hl⟩).mpr rfl
  have e : (dats m 0 c).arrAt 4 cfg0.N = Contents.outOf (grid0.coords ⟨63, hl⟩) h3 (carry m c (63 + 1)).state := by
    rw [← carry_out m c ⟨63, hl⟩ h3]
    refine (dats m 0 c).arrAt_eq_of_covers 4 _ (by decide +kernel) fun t hf y => ?_
    have ht : t.val = 63 := congrArg Fin.val (flush_last t hf)
    blk_simp
    show (carry m c (t.val + 1)).out y = _
    rw [ht]
    exact congrArg (fun j : S1024x64.Idx => ((carry m c (63 + 1)).out j : EReal)) (emb_out t y).symm
  rw [e]
  exact outOf_top m c _ h3 _ (carry_good m c 63 hl).2 q k

/-- The result, the array cut into the four batches. -/
theorem tail_eq : Pipeline.afterTail₀ cfgs (dats m) 0 (V0 m) [hostOps1] c main_v4
    = shapeCast S4x256x64 ((dats m 0 c).arrAt 4 cfg0.N : FVec Ideal S1024x64 .f32) shapeCasts_S1024x64_S4x256x64 := by
  unfold Pipeline.afterTail₀
  have e : Pipeline.withArrays (cfgs 0).spec c (V0 m c) (fun w => (dats m 0 c).arrAt w (cfgs 0).N) (Proc.devRef .tc main_v3)
      = (dats m 0 c).arrAt 4 cfg0.N := Pipeline.withArrays_arr spec0 (by decide) c _ _ 4
  rw [← e]
  rfl

/-- The array cut into the four batches, at an entry. -/
theorem cut_apply (G : FVec Ideal S1024x64 .f32) (b : Fin 4) (i : Fin 256) (k : Fin 64) :
    shapeCast S4x256x64 G shapeCasts_S1024x64_S4x256x64 (ix3 b i k) = G (ix2 ⟨256 * b.val + i.val, by omega⟩ k) := by
  refine shapeCast_apply G shapeCasts_S1024x64_S4x256x64 (ix3 b i k) (ix2 ⟨256 * b.val + i.val, by omega⟩ k) ?_
  rewrite [Shape.rowMajor_val_three, Shape.rowMajor_val_two]
  show (256 * b.val + i.val) * 64 + k.val = (b.val * 256 + i.val) * 64 + k.val
  omega

theorem tail_top (b : Fin 4) (i : Fin 256) (k : Fin 64) : Top ((args m c).count ⟨256 * b.val + i.val, by omega⟩) k.val
    (Pipeline.afterTail₀ cfgs (dats m) 0 (V0 m) [hostOps1] c main_v4 (ix3 b i k) : EReal) := by
  have e := (congrFun (tail_eq m c) (ix3 b i k)).trans (cut_apply _ b i k)
  exact Eq.mpr (congrArg (Top ((args m c).count ⟨256 * b.val + i.val, by omega⟩) k.val) e) (array_top m c ⟨256 * b.val + i.val, by omega⟩ k)

end Cert.KernelIdeal.Gen

end
-- ==== Proof.Sorted.lean ====
/-
  The two stages of the reference. A descending sort puts at place `k` the entry of rank `k`. Of 1024 groups of 64, the
  64 groups of greatest maximum hold the 64 greatest members of all.
-/
module

public import proofs.«01_k».proof.Proof.Top
public import proofs.«01_k».proof.Proof.Score
public import Idealize.ShloMosaic.Lib.SortFacts
public import Mathlib.Algebra.BigOperators.Fin
public import Mathlib.Data.Fintype.Card
public import Mathlib.Order.Interval.Finset.Fin

@[expose] public section

noncomputable section

namespace Cert.TopK

open Idealize.ShloMosaic

/-- The places of a descending sort of `f`. -/
abbrev place {n : ℕ} (f : Fin n → EReal) (k : Fin n) : Fin n := sortedFrom (fun a b => decide (f b < f a)) k

/-- Later places hold no greater entries. -/
theorem place_anti {n : ℕ} (f : Fin n → EReal) (i j : Fin n) (h : i ≤ j) : f (place f j) ≤ f (place f i) := by
  rcases lt_or_eq_of_le h with h | rfl
  · have := sortedFrom_noInversion (fun a b => decide (f b < f a)) (fun a b => decide (f b < f a))
      (fun a b h => by simp only [decide_eq_true_eq, decide_eq_false_iff_not] at h ⊢; exact not_lt_of_gt h) (fun _ _ h => h)
      (fun a b c h1 h2 => by
        simp only [decide_eq_false_iff_not, not_lt] at h1 h2 ⊢
        exact le_trans h1 h2) i j h
    simpa only [decide_eq_false_iff_not, not_lt] using this
  · exact le_rfl

/-- A sum over the places is a sum over the entries. -/
theorem sum_place {n : ℕ} (f : Fin n → EReal) (w : Fin n → ℕ) : ∑ k, w (place f k) = ∑ j, w j :=
  Function.Bijective.sum_comp ⟨sortedFrom_injective _, sortedFrom_surjective _⟩ w

/-- The entry at place `k` is that of rank `k`. -/
theorem place_top {n : ℕ} (f : Fin n → EReal) (k : Fin n) : Top (fun t => ∑ j, ind t (f j)) k.val (f (place f k)) := by
  intro t _
  show t ≤ f (place f k) ↔ k.val < ∑ j, ind t (f j)
  rw [← sum_place f fun j => ind t (f j)]
  unfold ind
  rw [Finset.sum_boole, Nat.cast_id]
  constructor
  · intro h
    refine lt_of_lt_of_le (Nat.lt_succ_self k.val) ?_
    rw [Nat.succ_eq_add_one, ← Fin.card_Iic]
    exact Finset.card_le_card fun i hi =>
      Finset.mem_filter.mpr ⟨Finset.mem_univ _, le_trans h (place_anti f i k (Finset.mem_Iic.mp hi))⟩
  · intro h
    by_contra hn
    refine absurd h (not_lt_of_ge ?_)
    rw [← Fin.card_Iio]
    refine Finset.card_le_card fun i hi => Finset.mem_Iio.mpr (lt_of_not_ge fun hki => hn ?_)
    exact le_trans (Finset.mem_filter.mp hi).2 (place_anti f k i hki)

/-- How many of a group's members are at least `t`. -/
def within (g : Fin 64 → EReal) (t : EReal) : ℕ := ∑ k, ind t (g k)

theorem within_pos (g : Fin 64 → EReal) (G t : EReal) (ht : ⊥ < t) (hG : ∀ t, ⊥ < t → (t ≤ G ↔ ∃ k, t ≤ g k)) (h : t ≤ G) : 1 ≤ within g t := by
  obtain ⟨k, hk⟩ := (hG t ht).mp h
  refine le_trans ?_ (Finset.single_le_sum (fun _ _ => Nat.zero_le _) (Finset.mem_univ k))
  rw [ind, if_pos hk]

theorem within_zero (g : Fin 64 → EReal) (G t : EReal) (ht : ⊥ < t) (hG : ∀ t, ⊥ < t → (t ≤ G ↔ ∃ k, t ≤ g k)) (h : ¬ t ≤ G) : within g t = 0 :=
  Finset.sum_eq_zero fun k _ => if_neg fun hk => h ((hG t ht).mpr ⟨k, hk⟩)

/-- The groups of greatest maximum hold the greatest members: up to 64, as many of the members of the first 64 groups are at
    least `t` as of all. -/
theorem groups_count (g : Fin 1024 → Fin 64 → EReal) (G : Fin 1024 → EReal)
    (hG : ∀ j t, ⊥ < t → (t ≤ G j ↔ ∃ k, t ≤ g j k)) (t : EReal) (ht : ⊥ < t) :
    min 64 (∑ i : Fin 64, within (g (place G ⟨i.val, by omega⟩)) t) = min 64 (∑ j, within (g j) t) := by
  have e : ∑ j, within (g j) t = (∑ i : Fin 64, within (g (place G ⟨i.val, by omega⟩)) t)
      + ∑ i : Fin 960, within (g (place G ⟨64 + i.val, by omega⟩)) t := by
    rw [← sum_place G fun j => within (g j) t]
    exact Fin.sum_univ_add (a := 64) (b := 960) fun k => within (g (place G k)) t
  by_cases h : t ≤ G (place G ⟨63, by omega⟩)
  · have h1 : 64 ≤ ∑ i : Fin 64, within (g (place G ⟨i.val, by omega⟩)) t := by
      refine le_trans (by simp) (Finset.sum_le_sum (f := fun _ : Fin 64 => 1) fun i _ => ?_)
      exact within_pos _ _ t ht (hG _) (le_trans h (place_anti G _ _ (by show i.val ≤ 63; omega)))
    omega
  · have h0 : ∑ i : Fin 960, within (g (place G ⟨64 + i.val, by omega⟩)) t = 0 :=
      Finset.sum_eq_zero fun i _ => within_zero _ _ t ht (hG _) fun hi =>
        h (le_trans hi (place_anti G _ _ (by show 63 ≤ 64 + i.val; omega)))
    omega

end Cert.TopK

end
-- ==== Proof.Lookup.lean ====
/-
  The operations of the reference that choose, read element by element at the ideal values: a `top_k` along the rows of
  a matrix, the maximum of each group, and the gathering of whole groups.
-/
module

public import proofs.«01_k».proof.Proof.Sorted
public import proofs.«01_k».proof.Proof.Gen.ReferenceIdeal.Read
public import Idealize.ShloMosaic.Lib.Pointwise
public import Idealize.ShloMosaic.Lib.ReduceAll

@[expose] public section

set_option maxRecDepth 16384

noncomputable section

namespace Cert.TopK

open Idealize.ShloMosaic

/-- A row of a matrix, another column taken. -/
theorem along_col {R N : ℕ} (q : Fin R) (i j : Fin N) : (ix2 q i : (⟨2, ![R, N]⟩ : Shape).Idx).along 1 j = ix2 q j := by
  funext a
  match a with
  | ⟨0, _⟩ => rfl
  | ⟨1, _⟩ => rfl

/-- Comparing greater, at the ideal values. -/
theorem gt_eq (a b : EReal) : (FloatOps.cmpfTotal (F := Ideal) (φ := .f32) .gt a b == 1#1) = decide (b < a) := by
  show (BitVec.ofBool (decide (b < a)) == 1#1) = decide (b < a)
  cases decide (b < a) <;> rfl

/-- The place of the sorted row that entry `k` of the result is. -/
theorem head_col {R N K : ℕ} (h : (⟨2, ![R, N]⟩ : Shape).Slices (fun _ => 0) ⟨2, ![R, K]⟩) (q : Fin R) (k : Fin K) (hk : k.val < N) :
    (fun a => ⟨0 + ((ix2 q k : (⟨2, ![R, K]⟩ : Shape).Idx) (a.cast h.1.symm)).val,
      Nat.lt_of_lt_of_le (Nat.add_lt_add_left ((ix2 q k : (⟨2, ![R, K]⟩ : Shape).Idx) _).isLt _) (h.2 a)⟩ : (⟨2, ![R, N]⟩ : Shape).Idx)
      = ix2 q ⟨k.val, hk⟩ := by
  funext a
  match a with
  | ⟨0, _⟩ => exact Fin.ext (Nat.zero_add _)
  | ⟨1, _⟩ => exact Fin.ext (Nat.zero_add _)

theorem sort2_eq {R N : ℕ} {β : Type} (X : FVec Ideal ⟨2, ![R, N]⟩ .f32) (Y : (⟨2, ![R, N]⟩ : Shape).Idx → β) (q : Fin R) (k : Fin N) :
    (Host.sort2 ⟨2, ![R, N]⟩ 1 (fun l r => FloatOps.cmpfTotal (F := Ideal) (φ := .f32) .gt l.1 r.1) X Y).1 (ix2 q k)
        = X (ix2 q (place (fun j => X (ix2 q j)) k))
      ∧ (Host.sort2 ⟨2, ![R, N]⟩ 1 (fun l r => FloatOps.cmpfTotal (F := Ideal) (φ := .f32) .gt l.1 r.1) X Y).2 (ix2 q k)
        = Y (ix2 q (place (fun j => X (ix2 q j)) k)) := by
  have e : sortedFrom (fun a b => FloatOps.cmpfTotal (F := Ideal) (φ := .f32) .gt (X ((ix2 q k : (⟨2, ![R, N]⟩ : Shape).Idx).along 1 a))
      (X ((ix2 q k : (⟨2, ![R, N]⟩ : Shape).Idx).along 1 b)) == 1#1) k = place (fun j => X (ix2 q j)) k := by
    refine congrArg (fun B => sortedFrom B k) ?_
    funext a b
    exact (congrArg₂ (fun u v : EReal => FloatOps.cmpfTotal (F := Ideal) (φ := .f32) .gt u v == 1#1) (congrArg X (along_col q k a))
      (congrArg X (along_col q k b))).trans (gt_eq (X (ix2 q a)) (X (ix2 q b)))
  exact ⟨(congrArg (fun p : Fin N => X ((ix2 q k : (⟨2, ![R, N]⟩ : Shape).Idx).along 1 p)) e).trans (congrArg X (along_col _ _ _)),
    (congrArg (fun p : Fin N => Y ((ix2 q k : (⟨2, ![R, N]⟩ : Shape).Idx).along 1 p)) e).trans (congrArg Y (along_col _ _ _))⟩

/-- The column numbers a `top_k` carries along. -/
def columns (R N : ℕ) : IVec ⟨2, ![R, N]⟩ 32 := fun i => if hd : 1 < (⟨2, ![R, N]⟩ : Shape).rank then iotaInDim ⟨2, ![R, N]⟩ 32 ⟨1, hd⟩ i else 0#32

theorem columns_apply {R N : ℕ} (q : Fin R) (j : Fin N) : columns R N (ix2 q j) = BitVec.ofNat 32 j.val := dif_pos (by decide : 1 < 2)

/-- The entry at place `k` of a sorted row. -/
theorem topK_values {R N K : ℕ} (X : FVec Ideal ⟨2, ![R, N]⟩ .f32) (h : (⟨2, ![R, N]⟩ : Shape).Slices (fun _ => 0) ⟨2, ![R, K]⟩)
    (q : Fin R) (k : Fin K) (hk : k.val < N) :
    (Host.topK ⟨2, ![R, K]⟩ 1 (FloatOps.cmpfTotal (F := Ideal) (φ := .f32) .gt) X h).1 (ix2 q k)
      = X (ix2 q (place (fun j => X (ix2 q j)) ⟨k.val, hk⟩)) := by
  exact (congrArg (fun i => (Host.sort2 ⟨2, ![R, N]⟩ 1 (fun l r => FloatOps.cmpfTotal (F := Ideal) (φ := .f32) .gt l.1 r.1) X (columns R N)).1 i)
    (head_col h q k hk)).trans (sort2_eq X (columns R N) q ⟨k.val, hk⟩).1

/-- and the column it came from. -/
theorem topK_columns {R N K : ℕ} (X : FVec Ideal ⟨2, ![R, N]⟩ .f32) (h : (⟨2, ![R, N]⟩ : Shape).Slices (fun _ => 0) ⟨2, ![R, K]⟩)
    (q : Fin R) (k : Fin K) (hk : k.val < N) :
    (Host.topK ⟨2, ![R, K]⟩ 1 (FloatOps.cmpfTotal (F := Ideal) (φ := .f32) .gt) X h).2 (ix2 q k)
      = BitVec.ofNat 32 (place (fun j => X (ix2 q j)) ⟨k.val, hk⟩).val := by
  exact ((congrArg (fun i => (Host.sort2 ⟨2, ![R, N]⟩ 1 (fun l r => FloatOps.cmpfTotal (F := Ideal) (φ := .f32) .gt l.1 r.1) X (columns R N)).2 i)
    (head_col h q k hk)).trans (sort2_eq X (columns R N) q ⟨k.val, hk⟩).2).trans (columns_apply _ _)

/-! ## The stages of the reference -/

open Cert.ReferenceIdeal Cert.ReferenceIdeal.Gen Cert.ReferenceIdeal.Read

variable (A : Args)

theorem code_toInt (b : BitVec 8) : (b.setWidth 32).toInt = (b.toNat : ℤ) := by
  revert b
  decide +kernel

/-- The queries, the four batches one after another. -/
theorem stage_query (q : Fin 1024) (k : Fin 4096) : (val_main_v0 (F := Ideal) A.x : FVec Ideal S1024x4096 .bf16) (ix2 q k) = A.query q k := by
  rw [val_main_v0_apply]
  unfold Args.query
  refine congrArg A.x (funext fun a => Fin.ext ?_)
  match a with
  | ⟨0, _⟩ => show (q.val * 4096 + k.val) / 1048576 = q.val / 256; omega
  | ⟨1, _⟩ => show (q.val * 4096 + k.val) / 4096 % 256 = q.val % 256; omega
  | ⟨2, _⟩ => show (q.val * 4096 + k.val) % 4096 = k.val; omega

/-- Their sums. -/
theorem stage_sum (q : Fin 1024) : (val_main_v2 (F := Ideal) A.x : FVec Ideal S1024 .f32) (ix1 q) = ∑ k, A.query q k := by
  rw [val_main_v2_apply, val_main_cst_apply]
  have h0 : (FloatOps.ofBits (F := Ideal) .f32 0x00000000#32 : EReal) = 0 := by simp [Ideal.ofBits, Ideal.ieee]
  refine (congrArg (· + _) h0).trans ((zero_add _).trans (Finset.sum_congr rfl fun k _ => ?_))
  rw [val_main_v1_apply]
  refine Eq.trans ?_ (stage_query A q k)
  show (val_main_v0 (F := Ideal) A.x _ : EReal) = _
  exact congrArg (val_main_v0 (F := Ideal) A.x) (funext fun a => match a with
    | ⟨0, _⟩ => rfl
    | ⟨1, _⟩ => rfl)

/-- The products with the codes. -/
theorem stage_product (q : Fin 1024) (d : Fin 65536) : (val_main_v5 (F := Ideal) A.x A.codes : FVec Ideal S1024x65536 .f32) (ix2 q d)
    = ∑ k, A.query q k * (((A.codes (ix2 d k)).toNat : ℝ) : EReal) := by
  rw [val_main_v5_apply]
  refine Finset.sum_congr rfl fun k _ => congrArg₂ (· * ·) ?_ ?_
  · refine Eq.trans ?_ (stage_query A q k)
    exact congrArg (val_main_v0 (F := Ideal) A.x) (funext fun a => match a with
      | ⟨0, _⟩ => rfl
      | ⟨1, _⟩ => rfl)
  · have e : ridx_main_v5 (ix2 q d) k = ix2 d k := funext fun a => match a with
      | ⟨0, _⟩ => rfl
      | ⟨1, _⟩ => rfl
    rw [e, val_main_v4_apply, val_main_v3_apply]
    show ((((A.codes (ix2 d k)).setWidth 32).toInt : ℝ) : EReal) = _
    rw [code_toInt]
    rfl

/-- The scores. -/
theorem stage_score (q : Fin 1024) (d : Fin 65536) :
    (val_main_v15 (F := Ideal) A.x A.codes A.scales A.zeros : FVec Ideal S1024x65536 .f32) (ix2 q d) = A.score q d := by
  have e1 : (val_main_v9 (F := Ideal) A.x (ix2 q d) : EReal) = ∑ k, A.query q k := by
    rw [val_main_v9_apply, val_main_v6_apply]
    refine Eq.trans (congrArg (val_main_v2 (F := Ideal) A.x) (funext fun a => ?_)) (stage_sum A q)
    match a with
    | ⟨0, _⟩ => rfl
  have e2 : (val_main_v10 (F := Ideal) A.zeros (ix2 q d) : EReal) = (((A.zeros (ix1 d)).toInt : ℝ) : EReal) := by
    rw [val_main_v10_apply, val_main_v8_apply, val_main_v7_apply]
    refine congrArg (fun w : BitVec 32 => ((w.toInt : ℝ) : EReal)) (congrArg A.zeros (funext fun a => ?_))
    match a with
    | ⟨0, _⟩ => rfl
  have e3 : (val_main_v14 (F := Ideal) A.scales (ix2 q d) : EReal) = A.scales (ix1 d) := by
    rw [val_main_v14_apply, val_main_v13_apply]
    refine congrArg A.scales (funext fun a => ?_)
    match a with
    | ⟨0, _⟩ => rfl
  rw [val_main_v15_apply, val_main_v12_apply, val_main_v11_apply]
  exact congrArg₂ (· * ·) (congrArg₂ (· - ·) (stage_product A q d) (congrArg₂ (· * ·) e1 e2)) e3

/-- Member `k` of group `j`. -/
def Args.member (q : Fin 1024) (j : Fin 1024) (k : Fin 64) : EReal := A.score q ⟨64 * j.val + k.val, by omega⟩

theorem stage_member (q j : Fin 1024) (k : Fin 64) :
    (val_main_v16 (F := Ideal) A.x A.codes A.scales A.zeros : FVec Ideal S1024x1024x64 .f32) (ix3 q j k) = A.member q j k := by
  rw [val_main_v16_apply]
  refine Eq.trans (congrArg (val_main_v15 (F := Ideal) A.x A.codes A.scales A.zeros) (funext fun a => Fin.ext ?_)) (stage_score A q ⟨64 * j.val + k.val, by omega⟩)
  match a with
  | ⟨0, _⟩ => show ((q.val * 1024 + j.val) * 64 + k.val) / 65536 = q.val; omega
  | ⟨1, _⟩ => show ((q.val * 1024 + j.val) * 64 + k.val) % 65536 = 64 * j.val + k.val; omega

/-- The greatest of each group. -/
def Args.greatest (q j : Fin 1024) : EReal := (val_main_v17 (F := Ideal) A.x A.codes A.scales A.zeros : FVec Ideal S1024x1024 .f32) (ix2 q j)

theorem le_fold {n : ℕ} (f : Fin n → EReal) (t : EReal) (ht : ⊥ < t) : t ≤ (Finset.univ : Finset (Fin n)).fold max ⊥ f ↔ ∃ k, t ≤ f k := by
  rw [Finset.le_fold_max]
  simp [not_le_of_gt ht]

theorem le_greatest (q j : Fin 1024) (t : EReal) (ht : ⊥ < t) : t ≤ A.greatest q j ↔ ∃ k, t ≤ A.member q j k := by
  have e : A.greatest q j = (Finset.univ : Finset (Fin 64)).fold max ⊥ (A.member q j) := by
    unfold Args.greatest val_main_v17
    have h0 : (val_main_cst_0 (F := Ideal) (Shape.Idx.first h_S_) : EReal) = ⊥ := by
      rw [val_main_cst_0_apply]
      simp [Ideal.ofBits, Ideal.ieee]
    have hr : S1024x1024x64.Reduces [2] S1024x1024 := by decide
    refine (Host.reduce_eq_fold_single (max : EReal → EReal → EReal) (val_main_v16 (F := Ideal) A.x A.codes A.scales A.zeros) (val_main_cst_0 (F := Ideal))
      reducesTo_S1024x1024x64_S1024x1024_d2 hr h_S_ (ix2 q j)).trans ?_
    rw [h0]
    refine congrArg (fun f => (Finset.univ : Finset (Fin 64)).fold max ⊥ f) ?_
    funext k
    refine Eq.trans (congrArg (val_main_v16 (F := Ideal) A.x A.codes A.scales A.zeros) (funext fun a => Fin.ext ?_)) (stage_member A q j k)
    match a with
    | ⟨0, _⟩ => rfl
    | ⟨1, _⟩ => rfl
    | ⟨2, _⟩ => rfl
  rw [e]
  exact le_fold _ t ht

/-- The group at place `i` of those in descending order of their greatest. -/
abbrev Args.group (q : Fin 1024) (i : Fin 64) : Fin 1024 := place (A.greatest q) ⟨i.val, by omega⟩

theorem stage_group (q : Fin 1024) (i : Fin 64) :
    (val_main_v18 (F := Ideal) A.x A.codes A.scales A.zeros : IVec S1024x64x1 32) (ix3 q i 0) = BitVec.ofNat 32 (A.group q i).val := by
  rw [val_main_v18_apply]
  refine Eq.trans (congrArg (val_main_indices (F := Ideal) A.x A.codes A.scales A.zeros) (funext fun a => ?_))
    (topK_columns (R := 1024) (N := 1024) (K := 64) (val_main_v17 (F := Ideal) A.x A.codes A.scales A.zeros) sliceFits_S1024x1024_S1024x64 q i (by omega))
  match a with
  | ⟨0, _⟩ => rfl
  | ⟨1, _⟩ => rfl

end Cert.TopK

end
-- ==== Proof.Gather.lean ====
/-
  The gather of the reference: it takes whole groups, of the query of the result's row.
-/
module

public import proofs.«01_k».proof.Proof.Gen.ReferenceIdeal
public import Idealize.ShloMosaic.Lib.Pointwise
public import Idealize.ShloMosaic.PureOps.Ideal

@[expose] public section

set_option maxRecDepth 16384

noncomputable section

namespace Cert.TopK

open Idealize.ShloMosaic
open Cert.ReferenceIdeal Cert.ReferenceIdeal.Gen

/-- The gather's dimension numbers. -/
abbrev gd : GatherDims S1024x1024x64 S1024x64x1 S1024x64x64 := gather_S1024x1024x64_S1024x64x1_S1024x64x64_2_1_0_0_1_2_1164

variable (I : IVec S1024x64x1 32) (q : Fin 1024) (i k : Fin 64)

theorem mem_zero : (0 : Fin 3) ∉ gd.startIndexMap ∧ (0 : Fin 3) ∈ gd.operandBatchingDims ∧ (0 : Fin 3) ∉ gd.sKept := by decide
theorem mem_one : (1 : Fin 3) ∈ gd.startIndexMap ∧ (1 : Fin 3) ∉ gd.operandBatchingDims ∧ (1 : Fin 3) ∉ gd.sKept := by decide
theorem mem_two : (2 : Fin 3) ∉ gd.startIndexMap ∧ (2 : Fin 3) ∉ gd.operandBatchingDims ∧ (2 : Fin 3) ∈ gd.sKept := by decide

theorem gather_zero : gd.start (ix3 q i k) I (0 : Fin 3) + gd.batchCoord (ix3 q i k) (0 : Fin 3) + gd.offCoord (ix3 q i k) (0 : Fin 3) = q.val := by
  have e1 : gd.start (ix3 q i k) I (0 : Fin 3) = 0 := dif_neg mem_zero.1
  have e2 : gd.batchCoord (ix3 q i k) (0 : Fin 3) = q.val := (dif_pos mem_zero.2.1).trans rfl
  have e3 : gd.offCoord (ix3 q i k) (0 : Fin 3) = 0 := dif_neg mem_zero.2.2
  omega

/-- Where the group's number is read. -/
theorem siIdx_eq (c : Fin gd.startIndexMap.length) : gd.siIdx (ix3 q i k) c = ix3 q i 0 := by
  funext b
  match b with
  | ⟨0, _⟩ => rfl
  | ⟨1, _⟩ => rfl
  | ⟨2, _⟩ => exact Subsingleton.elim (α := Fin 1) _ _

theorem extent_one : S1024x1024x64.size (1 : Fin 3) - gd.sliceSizes (1 : Fin 3) = 1023 := by decide

theorem start_one : gd.start (ix3 q i k) I (1 : Fin 3) = min (I (ix3 q i 0)).toInt.toNat 1023 := by
  unfold GatherDims.start
  rw [dif_pos mem_one.1, siIdx_eq, extent_one]

theorem gather_one (j : Fin 1024) (h : min (I (ix3 q i 0)).toInt.toNat 1023 = j.val) :
    gd.start (ix3 q i k) I (1 : Fin 3) + gd.batchCoord (ix3 q i k) (1 : Fin 3) + gd.offCoord (ix3 q i k) (1 : Fin 3) = j.val := by
  have e1 := (start_one I q i k).trans h
  have e2 : gd.batchCoord (ix3 q i k) (1 : Fin 3) = 0 := dif_neg mem_one.2.1
  have e3 : gd.offCoord (ix3 q i k) (1 : Fin 3) = 0 := dif_neg mem_one.2.2
  omega

theorem gather_two : gd.start (ix3 q i k) I (2 : Fin 3) + gd.batchCoord (ix3 q i k) (2 : Fin 3) + gd.offCoord (ix3 q i k) (2 : Fin 3) = k.val := by
  have e1 : gd.start (ix3 q i k) I (2 : Fin 3) = 0 := dif_neg mem_two.1
  have e2 : gd.batchCoord (ix3 q i k) (2 : Fin 3) = 0 := dif_neg mem_two.2.1
  have e3 : gd.offCoord (ix3 q i k) (2 : Fin 3) = k.val := (dif_pos mem_two.2.2).trans rfl
  omega

/-- Entry `k` of the group gathered in place `i` for query `q`. -/
theorem gather_apply (X : FVec Ideal S1024x1024x64 .f32) (j : Fin 1024) (h : min (I (ix3 q i 0)).toInt.toNat 1023 = j.val) :
    Host.gather gd X I (ix3 q i k) = X (ix3 q j k) := by
  refine congrArg X (funext fun a => Fin.ext ?_)
  match a with
  | ⟨0, _⟩ => exact gather_zero I q i k
  | ⟨1, _⟩ => exact gather_one I q i k j h
  | ⟨2, _⟩ => exact gather_two I q i k

end Cert.TopK

end
-- ==== Proof.Groups.lean ====
/-
  The result of the reference: entry (q, k) is the entry of rank k, in descending order, of the scores of query q. The
  candidates are the members of the 64 groups of greatest maximum.
-/
module

public import proofs.«01_k».proof.Proof.Lookup
public import proofs.«01_k».proof.Proof.Gather
public import Idealize.ShloMosaic.Lib.Pipeline.ValueKit

@[expose] public section

set_option maxRecDepth 16384

noncomputable section

namespace Cert.TopK

open Idealize.ShloMosaic
open Cert.ReferenceIdeal Cert.ReferenceIdeal.Gen Cert.ReferenceIdeal.Read

variable (A : Args)

/-- The group numbers as words: not negative, at most 1023, read back as they were. -/
theorem word_facts : ∀ n : Fin 1024, IntOp.cmpi .slt (BitVec.ofNat 32 n.val) 0#32 = 0#1 ∧ IntOp.cmpi .sge (BitVec.ofNat 32 n.val) 0#32 = 1#1
    ∧ IntOp.cmpi .sle (BitVec.ofNat 32 n.val) 1023#32 = 1#1 ∧ min (BitVec.ofNat 32 n.val).toInt.toNat 1023 = n.val := by decide +kernel

/-- The group numbers after the treatment of negative ones. -/
theorem stage_start (q : Fin 1024) (i : Fin 64) :
    (val_main_call0_v4 (F := Ideal) A.x A.codes A.scales A.zeros : IVec S1024x64x1 32) (ix3 q i 0) = BitVec.ofNat 32 (A.group q i).val := by
  rw [val_main_call0_v4_apply, val_main_call0_v1_apply, val_main_call0_v0_apply, val_main_call0_c_apply, stage_group, (word_facts (A.group q i)).1]
  rfl

theorem idx_last (j : S1024x64x1.Idx) : j = ix3 (j 0 : Fin 1024) (j 1 : Fin 64) (0 : Fin 1) := by
  funext a
  match a with
  | ⟨0, _⟩ => rfl
  | ⟨1, _⟩ => rfl
  | ⟨2, _⟩ => exact Subsingleton.elim (α := Fin 1) _ _

/-- Each of them is in range. -/
theorem stage_in_range (q : Fin 1024) (i : Fin 64) :
    (val_main_call0_v10 (F := Ideal) A.x A.codes A.scales A.zeros : IVec S1024x64x1 1) (ix3 q i 0) = 1#1 := by
  rw [val_main_call0_v10_apply, val_main_call0_v6_apply, val_main_call0_v9_apply, val_main_call0_v5_apply, val_main_call0_c_2_apply,
    val_main_call0_v8_apply, val_main_call0_v7_apply, val_main_call0_c_1_apply, stage_start, (word_facts _).2.1, (word_facts _).2.2.1]
  rfl

/-- All of them are in range. -/
theorem stage_mask (j : S1024x64.Idx) : (val_main_call0_v11 (F := Ideal) A.x A.codes A.scales A.zeros : IVec S1024x64 1) j = 1#1 := by
  unfold val_main_call0_v11
  refine Host.reduce_andi_one _ _ _ _ _ rfl fun i => ?_
  exact (congrArg (val_main_call0_v10 (F := Ideal) A.x A.codes A.scales A.zeros) (idx_last i)).trans (stage_in_range A _ _)

/-- Whole groups gathered. -/
theorem stage_gather (q : Fin 1024) (i k : Fin 64) :
    (val_main_call0_v12 (F := Ideal) A.x A.codes A.scales A.zeros : FVec Ideal S1024x64x64 .f32) (ix3 q i k) = A.member q (A.group q i) k := by
  unfold val_main_call0_v12
  refine (gather_apply (val_main_call0_v4 (F := Ideal) A.x A.codes A.scales A.zeros) q i k
    (val_main_v16 (F := Ideal) A.x A.codes A.scales A.zeros) (A.group q i) ?_).trans (stage_member A q (A.group q i) k)
  rw [stage_start]
  exact (word_facts (A.group q i)).2.2.2

/-- The candidates of a query. -/
def Args.candidate (q : Fin 1024) (e : Fin 4096) : EReal := A.member q (A.group q ⟨e.val / 64, by omega⟩) ⟨e.val % 64, by omega⟩

theorem stage_candidate (q : Fin 1024) (e : Fin 4096) :
    (val_main_v20 (F := Ideal) A.x A.codes A.scales A.zeros : FVec Ideal S1024x4096 .f32) (ix2 q e) = A.candidate q e := by
  have h : idx_main_v20 (ix2 q e) = ix3 q ⟨e.val / 64, by omega⟩ ⟨e.val % 64, by omega⟩ := by
    funext a
    refine Fin.ext ?_
    match a with
    | ⟨0, _⟩ => show (q.val * 4096 + e.val) / 4096 = q.val; omega
    | ⟨1, _⟩ => show (q.val * 4096 + e.val) / 64 % 64 = e.val / 64; omega
    | ⟨2, _⟩ => show (q.val * 4096 + e.val) % 64 = e.val % 64; omega
  rw [val_main_v20_apply, h, val_main_v19_apply, val_main_call0_v13_apply, stage_mask]
  exact stage_gather A q _ _

/-- The candidates group by group. -/
theorem sum_candidates (q : Fin 1024) (t : EReal) : ∑ e, ind t (A.candidate q e) = ∑ i : Fin 64, within (A.member q (A.group q i)) t := by
  let f : ℕ → ℕ := fun e => ind t (A.candidate q ⟨e % 4096, Nat.mod_lt _ (by decide)⟩)
  have e1 : ∑ e, ind t (A.candidate q e) = ∑ e : Fin (64 * 64), f e.val :=
    Finset.sum_congr rfl fun e _ => congrArg (fun d => ind t (A.candidate q d)) (Fin.ext (Nat.mod_eq_of_lt e.isLt).symm)
  rw [e1, ← Fin.sum_univ_univ_mul_add]
  refine Finset.sum_congr rfl fun i _ => Finset.sum_congr rfl fun k _ => congrArg (ind t) ?_
  unfold Args.candidate
  have hi : (⟨(i.val * 64 + k.val) % 4096 / 64, by omega⟩ : Fin 64) = i := Fin.ext (by dsimp only; omega)
  have hk : (⟨(i.val * 64 + k.val) % 4096 % 64, by omega⟩ : Fin 64) = k := Fin.ext (by dsimp only; omega)
  dsimp only
  rw [hi, hk]

/-- All the scores group by group. -/
theorem sum_members (q : Fin 1024) (t : EReal) : A.count q t = ∑ j, within (A.member q j) t := by
  have e1 : A.count q t = ∑ e : Fin (1024 * 64), ind t (A.scoreN q e.val) :=
    Finset.sum_congr rfl fun e _ => congrArg (fun d => ind t (A.score q d)) (Fin.ext (Nat.mod_eq_of_lt e.isLt).symm)
  rw [e1, ← Fin.sum_univ_univ_mul_add 1024 64 fun e => ind t (A.scoreN q e)]
  refine Finset.sum_congr rfl fun j _ => Finset.sum_congr rfl fun k _ => congrArg (fun d => ind t (A.score q d)) (Fin.ext ?_)
  show (j.val * 64 + k.val) % 65536 = 64 * j.val + k.val
  omega

/-- The result of the reference, of rank `k` among the candidates. -/
theorem reference_top (b : Fin 4) (i : Fin 256) (k : Fin 64) :
    Top (fun t => ∑ e, ind t (A.candidate ⟨256 * b.val + i.val, by omega⟩ e)) k.val
      ((val_main_v21 (F := Ideal) A.x A.codes A.scales A.zeros : FVec Ideal S4x256x64 .f32) (ix3 b i k) : EReal) := by
  have h : idx_main_v21 (ix3 b i k) = ix2 ⟨256 * b.val + i.val, by omega⟩ k := by
    funext a
    refine Fin.ext ?_
    match a with
    | ⟨0, _⟩ => show ((b.val * 256 + i.val) * 64 + k.val) / 64 = 256 * b.val + i.val; omega
    | ⟨1, _⟩ => show ((b.val * 256 + i.val) * 64 + k.val) % 64 = k.val; omega
  rw [val_main_v21_apply, h]
  have hf : (fun j : Fin 4096 => ((val_main_v20 (F := Ideal) A.x A.codes A.scales A.zeros : FVec Ideal S1024x4096 .f32) (ix2 ⟨256 * b.val + i.val, by omega⟩ j) : EReal))
      = A.candidate ⟨256 * b.val + i.val, by omega⟩ := funext fun j => stage_candidate A _ j
  have e := topK_values (R := 1024) (N := 4096) (K := 64) (val_main_v20 (F := Ideal) A.x A.codes A.scales A.zeros) sliceFits_S1024x4096_S1024x64
    ⟨256 * b.val + i.val, by omega⟩ k (by omega)
  rw [hf] at e
  have e2 := e.trans (stage_candidate A ⟨256 * b.val + i.val, by omega⟩ _)
  exact Eq.mpr (congrArg (Top (fun t => ∑ e, ind t (A.candidate ⟨256 * b.val + i.val, by omega⟩ e)) k.val) e2)
    (place_top (A.candidate ⟨256 * b.val + i.val, by omega⟩) ⟨k.val, by omega⟩)

/-- An entry of rank `k < 64` among all the scores is the reference's. -/
theorem reference_eq (b : Fin 4) (i : Fin 256) (k : Fin 64) (a : EReal) (h : Top (A.count ⟨256 * b.val + i.val, by omega⟩) k.val a) :
    a = ((val_main_v21 (F := Ideal) A.x A.codes A.scales A.zeros : FVec Ideal S4x256x64 .f32) (ix3 b i k) : EReal) := by
  refine Top.unique h (reference_top A b i k) k.isLt fun t ht => ?_
  rw [sum_candidates, sum_members]
  exact (groups_count (A.member ⟨256 * b.val + i.val, by omega⟩) (A.greatest ⟨256 * b.val + i.val, by omega⟩)
    (fun j t ht => le_greatest A _ j t ht) t ht).symm

end Cert.TopK

end
-- ==== Proof.Algebraic.lean ====
/-
  Kernel and reference compute the same function over the extended reals.
-/
module

public import proofs.«01_k».proof.Defs
public import proofs.«01_k».proof.Proof.Value
public import proofs.«01_k».proof.Proof.Groups
public import proofs.«01_k».proof.Proof.Gen.ReferenceIdeal.Run
public import proofs.«01_k».proof.Proof.Gen.ReferenceIdeal.Read
public import Idealize.ShloMosaic.Lib.Pipeline.Regions

@[expose] public section

set_option maxRecDepth 16384

noncomputable section

namespace Cert.KernelIdeal.Gen

open Idealize.ShloMosaic Idealize.ShloMosaic.TcCoe
open Idealize.SL Idealize.SL.Sem
open Cert.TopK

variable (m : (ℓ : Loc nD τ sig) → Buf (Elt Ideal) ℓ) (ρ : Dev nD → PrngReg)

/-- What the reference computes of the kernel's arguments. -/
def expected (c : Dev nD) : FVec Ideal S4x256x64 .f32 :=
  Cert.ReferenceIdeal.Read.val_main_v21 (F := Ideal) (args m c).x (args m c).codes (args m c).scales (args m c).zeros

theorem idx_three (j : S4x256x64.Idx) : j = ix3 (j 0 : Fin 4) (j 1 : Fin 256) (j 2 : Fin 64) := by
  funext a
  match a with
  | ⟨0, _⟩ => rfl
  | ⟨1, _⟩ => rfl
  | ⟨2, _⟩ => rfl

/-- The kernel's result is what the reference computes: at every entry both are the score of that rank. -/
theorem result_expected (c : Dev nD) : (Pipeline.afterTail₀ cfgs (dats m) 0 (V0 m) [hostOps1] c main_v4 : FVec Ideal S4x256x64 .f32) = expected m c := by
  funext j
  rw [idx_three j]
  exact reference_eq (args m c) (j 0) (j 1) (j 2) _ (tail_top m c (j 0) (j 1) (j 2))

/-- A run of the kernel ends with that result and the arguments unchanged. -/
theorem run_value : θ_run (defs (F := Ideal)) (onTc (τ := τ) (main (F := Ideal))) ⟨m, fun _ => 0, ρ⟩ (fun r => ∀ c : Dev nD,
      r.2.mem ((c.tc : Thread nD τ).loc main_v4) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h => ?_) (run_main m ρ)
  intro c
  exact ⟨((h.1 c).2 main_v4 (Pipeline.mem_restRefs_of main_v4 (by decide) (by decide))).trans (result_expected m c),
    ((h.1 c).2 main_arg0 (Pipeline.mem_restRefs_of main_arg0 (by decide) (by decide))).trans (W_main_arg0 m (dats m) c),
    ((h.1 c).1 1).trans (((dats m 0 c).arrAt_in 1 rfl _).trans (V_main_arg1 m c)),
    (((h.1 c).2 main_arg2 (Pipeline.mem_restRefs_of main_arg2 (by decide) (by decide))).trans (W_main_arg2 m (dats m) c)),
    (((h.1 c).2 main_arg3 (Pipeline.mem_restRefs_of main_arg3 (by decide) (by decide))).trans (W_main_arg3 m (dats m) c))⟩

end Cert.KernelIdeal.Gen

namespace Cert.TopK

open Cert Idealize.ShloMosaic Idealize.ShloMosaic.TcCoe Idealize.SL.Sem

/-- From memories that agree on the arguments, kernel and reference end with the same result. -/
theorem algebraic : algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Gen.expected m c, Cert.KernelIdeal.Gen.run_value m g, ?_⟩
  refine (θ_run Cert.ReferenceIdeal.defs _ _).mono (fun r h c => ⟨(h c).1.trans ?_, (h c).2⟩) (Cert.ReferenceIdeal.Value.run (F := Ideal) m' g')
  obtain ⟨h0, h1, h2, h3⟩ := hm c
  rw [Cert.ReferenceIdeal.Read.val_main_v21_eq, h0, h1, h2, h3]
  rfl

end Cert.TopK

end
-- ==== Proof.lean ====
/-
  The proof of `Cert.Claim`.
-/
module

public import proofs.«01_k».proof.Defs
public import proofs.«01_k».proof.Proof.Frames
public import proofs.«01_k».proof.Proof.Reference
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Cert

/-- The three frames, that the idealized program is the printed one, and that it computes what the reference does. -/
theorem claim : Cert.Claim :=
  ⟨Cert.Kernel.Gen.facts, Cert.KernelIdeal.Gen.facts, Cert.ReferenceIdeal.Gen.facts,
    Cert.KernelIdeal.Gen.quiescent_bits, Cert.KernelIdeal.Gen.quiescent_ideal, Cert.TopK.quiescent_reference, trivial,
    Cert.TopK.algebraic⟩

end Cert.Proof

end
